-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_reach [hPre_within_reach : Cert.Pre_within_reach.Facts] (m : (ℓ : Loc Cert.KernelIdeal.nD Cert.KernelIdeal.τ Cert.KernelIdeal.sig) → Buf (Elt Ideal) ℓ) : Prop :=
  ∀ c : Dev Cert.KernelIdeal.nD,
    (Cert.Pre_within_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_reach [hPre_within_reach : Cert.Pre_within_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_within_reach [hKernelIdeal : Cert.KernelIdeal.Facts] [hPre_within_reach : Cert.Pre_within_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_within_reach [hReferenceIdeal : Cert.ReferenceIdeal.Facts] [hPre_within_reach : Cert.Pre_within_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_within_reach [hKernelIdeal : Cert.KernelIdeal.Facts] [hReferenceIdeal : Cert.ReferenceIdeal.Facts] [hPre_within_reach : Cert.Pre_within_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_within_reach : Cert.Pre_within_reach.Facts),
    quiescent_Kernel (hKernel := hKernel)
    ∧ quiescent_KernelIdeal (hKernelIdeal := hKernelIdeal)
    ∧ quiescent_KernelIdeal_pre_within_reach (hKernelIdeal := hKernelIdeal) (hPre_within_reach := hPre_within_reach)
    ∧ quiescent_ReferenceIdeal (hReferenceIdeal := hReferenceIdeal)
    ∧ quiescent_ReferenceIdeal_pre_within_reach (hReferenceIdeal := hReferenceIdeal) (hPre_within_reach := hPre_within_reach)
    ∧ preserves_Kernel_KernelIdeal
    ∧ algebraic_KernelIdeal_ReferenceIdeal_pre_within_reach (hKernelIdeal := hKernelIdeal) (hReferenceIdeal := hReferenceIdeal) (hPre_within_reach := hPre_within_reach)
-- ==== Pre_within_reach.lean ====
abbrev S4x129 : Shape := ⟨2, ![4, 129]⟩
abbrev S4x1x224x224 : Shape := ⟨4, ![4, 1, 224, 224]⟩
abbrev S4x50176 : Shape := ⟨2, ![4, 50176]⟩
abbrev S_ : Shape := ⟨0, ![]⟩
abbrev S4 : Shape := ⟨1, ![4]⟩
abbrev S4x1 : Shape := ⟨2, ![4, 1]⟩

class Facts : Prop where
  shapeCasts_S4x1x224x224_S4x50176 : S4x1x224x224.ShapeCasts S4x50176
  bcast_S_S4x50176 : S_.BroadcastsInDim S4x50176 (![] : Fin 0 → Fin S4x50176.rank)
  reducesTo_S4x50176_S4_d1 : S4x50176.ReducesTo [1] S4
  h_S_ : 0 < S_.numel
  bcast_S_S4x129 : S_.BroadcastsInDim S4x129 (![] : Fin 0 → Fin S4x129.rank)
  bcast_S_S4 : S_.BroadcastsInDim S4 (![] : Fin 0 → Fin S4.rank)
  bcast_S4_S4x1_0 : S4.BroadcastsInDim S4x1 (![0] : Fin 1 → Fin S4x1.rank)
  bcast_S4x1_S4x129_0_1 : S4x1.BroadcastsInDim S4x129 (![0, 1] : Fin 2 → Fin S4x129.rank)

variable [Facts]

def fn_where {F : FTy → Type} [FloatOps F] (arg0 : IVec S4x50176 1) (arg1 : FVec F S4x50176 .f32) (arg2 : FVec F S_ .f32) : FVec F S4x50176 .f32 :=
  let v0 : FVec F S4x50176 .f32 := broadcastInDim S4x50176 ![] bcast_S_S4x50176 arg2
  let v1 : FVec F S4x50176 .f32 := select arg0 arg1 v0
  v1

def fn {F : FTy → Type} [FloatOps F] (main_arg0 : FVec F S4x129 .f32) (main_arg1 : FVec F S4x1x224x224 .f32) (main_arg2 : FVec F S4x1x224x224 .f32) : IVec S4x129 1 :=
  let main_v0 : FVec F S4x50176 .f32 := shapeCast S4x50176 main_arg2 shapeCasts_S4x1x224x224_S4x50176
  let main_cst : FVec F S_ .f32 := constant S_ .f32 0x3A83126F#32
  let main_v1 : FVec F S4x50176 .f32 := broadcastInDim S4x50176 ![] bcast_S_S4x50176 main_cst
  let main_v2 : IVec S4x50176 1 := cmpf .oge main_v0 main_v1
  let main_cst_0 : FVec F S_ .f32 := constant S_ .f32 0x7F800000#32
  let main_v3 : FVec F S4x50176 .f32 := fn_where (F := F) main_v2 main_v0 main_cst_0
  let main_cst_1 : FVec F S_ .f32 := constant S_ .f32 0x7F800000#32
  let main_v4 : FVec F S4 .f32 := (fun x v => Host.reduce FloatOps.minimumf x v reducesTo_S4x50176_S4_d1 h_S_) main_v3 main_cst_1
  let main_v5 : FVec F S4x129 .f32 := Host.absf main_arg0
  let main_cst_2 : FVec F S_ .f32 := constant S_ .f32 0x461C4000#32
  let main_v6 : FVec F S4x129 .f32 := broadcastInDim S4x129 ![] bcast_S_S4x129 main_cst_2
  let main_v7 : IVec S4x129 1 := cmpf .ole main_v5 main_v6
  let main_cst_3 : FVec F S_ .f32 := constant S_ .f32 0x461C4000#32
  let main_v8 : FVec F S4 .f32 := broadcastInDim S4 ![] bcast_S_S4 main_cst_3
  let main_v9 : IVec S4 1 := cmpf .ole main_v4 main_v8
  let main_v10 : IVec S4x1 1 := broadcastInDim S4x1 ![0] bcast_S4_S4x1_0 main_v9
  let main_v11 : IVec S4x129 1 := broadcastInDim S4x129 ![0, 1] bcast_S4x1_S4x129_0_1 main_v10
  let main_v12 : IVec S4x129 1 := andi main_v7 main_v11
  main_v12
-- ==== Kernel.lean ====
abbrev S4x129 : Shape := ⟨2, ![4, 129]⟩
abbrev S4x1x224x224 : Shape := ⟨4, ![4, 1, 224, 224]⟩
abbrev S4x128 : Shape := ⟨2, ![4, 128]⟩
abbrev S4x128x1 : Shape := ⟨3, ![4, 128, 1]⟩
abbrev S4x392x128 : Shape := ⟨3, ![4, 392, 128]⟩
abbrev S1x1 : Shape := ⟨2, ![1, 1]⟩
abbrev S1x128x1 : Shape := ⟨3, ![1, 128, 1]⟩
abbrev S1x392x128 : Shape := ⟨3, ![1, 392, 128]⟩
abbrev S3 : Shape := ⟨1, ![3]⟩
abbrev S1 : Shape := ⟨1, ![1]⟩
abbrev S128x1 : Shape := ⟨2, ![128, 1]⟩
abbrev S8x1 : Shape := ⟨2, ![8, 1]⟩
abbrev S1x128 : Shape := ⟨2, ![1, 128]⟩
abbrev S8x128 : Shape := ⟨2, ![8, 128]⟩
abbrev S1x56x128 : Shape := ⟨3, ![1, 56, 128]⟩
abbrev S56x128 : Shape := ⟨2, ![56, 128]⟩
abbrev S128 : Shape := ⟨1, ![128]⟩
abbrev S1x1x128 : Shape := ⟨3, ![1, 1, 128]⟩
abbrev S1x1x1 : Shape := ⟨3, ![1, 1, 1]⟩
abbrev S8 : Shape := ⟨1, ![8]⟩
abbrev S1x8 : Shape := ⟨2, ![1, 8]⟩

abbrev nBuf : Space → Nat
  | .hbm => 10
  | .vmem => 9
  | .smem => 1
  | _ => 0

abbrev bufTy : (tb : Table) → Fin (tcTables nBuf tb) → BufTy
  | .hbm, ⟨0, _⟩ => ⟨S4x129, .f32⟩
  | .hbm, ⟨1, _⟩ => ⟨S4x1x224x224, .f32⟩
  | .hbm, ⟨2, _⟩ => ⟨S4x1x224x224, .f32⟩
  | .hbm, ⟨3, _⟩ => ⟨S4x128, .f32⟩
  | .hbm, ⟨4, _⟩ => ⟨S4x128x1, .f32⟩
  | .hbm, ⟨5, _⟩ => ⟨S4x128, .f32⟩
  | .hbm, ⟨6, _⟩ => ⟨S4x128x1, .f32⟩
  | .hbm, ⟨7, _⟩ => ⟨S4x392x128, .f32⟩
  | .hbm, ⟨8, _⟩ => ⟨S4x392x128, .f32⟩
  | .hbm, ⟨9, _⟩ => ⟨S1x1, .f32⟩
  | .local _ .vmem, ⟨0, _⟩ => ⟨S1x128x1, .f32⟩
  | .local _ .vmem, ⟨1, _⟩ => ⟨S1x128x1, .f32⟩
  | .local _ .vmem, ⟨2, _⟩ => ⟨S1x128x1, .f32⟩
  | .local _ .vmem, ⟨3, _⟩ => ⟨S1x128x1, .f32⟩
  | .local _ .vmem, ⟨4, _⟩ => ⟨S1x392x128, .f32⟩
  | .local _ .vmem, ⟨5, _⟩ => ⟨S1x392x128, .f32⟩
  | .local _ .vmem, ⟨6, _⟩ => ⟨S1x392x128, .f32⟩
  | .local _ .vmem, ⟨7, _⟩ => ⟨S1x392x128, .f32⟩
  | .local _ .vmem, ⟨8, _⟩ => ⟨S1x1, .f32⟩
  | .local _ .smem, ⟨0, _⟩ => ⟨S3, .f32⟩
  | _, _ => ⟨S4x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_24 : BitVec 32 := 0#32
  let c7_i32 : BitVec 32 := 7#32
  let v43 : BitVec 32 := Scalar.addi c0_i32_24 c7_i32
  let c1_i32 : BitVec 32 := 1#32
  ⟨c0_i32_24, v43, c1_i32⟩
def k0_off1 (k0_t1 : Fin k0_t1_loop.trips) : Fin 3 → Nat :=
  let c0_70 : Index := 0#32
  let c0_i32_24 : BitVec 32 := 0#32
  let c1_i32 : BitVec 32 := 1#32
  let arg7 : BitVec 32 := Scf.iv c0_i32_24 c1_i32 k0_t1
  let c56_i32 : BitVec 32 := 56#32
  let v189 : BitVec 32 := Scalar.muli arg7 c56_i32
  let v190 : Index := Scalar.indexCast v189
  let c0_71 : Index := 0#32
  ![0, v190.toNat, 0]
def k0_cond2 (i : grid0.Coords) : BitVec 1 :=
  let arg0 : BitVec 32 := BitVec.ofNat 32 (i 0).val
  let c3_i32 : BitVec 32 := 3#32
  let v186 : BitVec 1 := Scalar.cmpi .eq arg0 c3_i32
  let v187 : BitVec 32 := Scalar.extui v186
  let c0_i32_69 : BitVec 32 := 0#32
  let v188 : BitVec 1 := Scalar.cmpi .ne v187 c0_i32_69
  v188

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x392x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x392x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x129 : Shape := ⟨2, ![4, 129]⟩
abbrev S4x1x224x224 : Shape := ⟨4, ![4, 1, 224, 224]⟩
abbrev S_ : Shape := ⟨0, ![]⟩
abbrev S4x128 : Shape := ⟨2, ![4, 128]⟩
abbrev S4x50176 : Shape := ⟨2, ![4, 50176]⟩
abbrev S4 : Shape := ⟨1, ![4]⟩
abbrev S4x128x1 : Shape := ⟨3, ![4, 128, 1]⟩
abbrev S4x1x50176 : Shape := ⟨3, ![4, 1, 50176]⟩
abbrev S4x128x50176 : Shape := ⟨3, ![4, 128, 50176]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4x129, .f32⟩
  | .hbm, ⟨1, _⟩ => ⟨S4x1x224x224, .f32⟩
  | .hbm, ⟨2, _⟩ => ⟨S4x1x224x224, .f32⟩
  | .hbm, ⟨3, _⟩ => ⟨S4x1x224x224, .f32⟩
  | .hbm, ⟨4, _⟩ => ⟨S4x1x224x224, .f32⟩
  | .hbm, ⟨5, _⟩ => ⟨S4x1x224x224, .f32⟩
  | .hbm, ⟨6, _⟩ => ⟨S4x1x224x224, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x128, .f32⟩
  | .hbm, ⟨23, _⟩ => ⟨S4x128, .f32⟩
  | .hbm, ⟨24, _⟩ => ⟨S4x128, .f32⟩
  | .hbm, ⟨25, _⟩ => ⟨S_, .f32⟩
  | .hbm, ⟨26, _⟩ => ⟨S4x128, .f32⟩
  | .hbm, ⟨27, _⟩ => ⟨S4x128, .f32⟩
  | .hbm, ⟨28, _⟩ => ⟨S4x50176, .f32⟩
  | .hbm, ⟨29, _⟩ => ⟨S_, .f32⟩
  | .hbm, ⟨30, _⟩ => ⟨S4x50176, .f32⟩
  | .hbm, ⟨31, _⟩ => ⟨S4x50176, .i1⟩
  | .hbm, ⟨32, _⟩ => ⟨S4x50176, .i32⟩
  | .hbm, ⟨33, _⟩ => ⟨S_, .i32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S4x128x1, .f32⟩
  | .hbm, ⟨39, _⟩ => ⟨S4x1x50176, .f32⟩
  | .hbm, ⟨40, _⟩ => ⟨S4x128x50176, .f32⟩
  | .hbm, ⟨41, _⟩ => ⟨S4x128x50176, .f32⟩
  | .hbm, ⟨42, _⟩ => ⟨S4x128x50176, .f32⟩
  | .hbm, ⟨43, _⟩ => ⟨S4x128x50176, .f32⟩
  | .hbm, ⟨44, _⟩ => ⟨S4x1x50176, .i1⟩
  | .hbm, ⟨45, _⟩ => ⟨S_, .f32⟩
  | .hbm, ⟨46, _⟩ => ⟨S4x128x50176, .i1⟩
  | .hbm, ⟨47, _⟩ => ⟨S4x128x50176, .f32⟩
  | .hbm, ⟨48, _⟩ => ⟨S4x128x50176, .f32⟩
  | .hbm, ⟨49, _⟩ => ⟨S_, .f32⟩
  | .hbm, ⟨50, _⟩ => ⟨S4x128, .f32⟩
  | .hbm, ⟨51, _⟩ => ⟨S_, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4x50176, .f32⟩
  | .hbm, ⟨58, _⟩ => ⟨S_, .f32⟩
  | .hbm, ⟨59, _⟩ => ⟨S_, .f32⟩
  | .hbm, ⟨60, _⟩ => ⟨S4x50176, .f32⟩
  | .hbm, ⟨61, _⟩ => ⟨S4x50176, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1x1, .f32⟩
  | _, _ => ⟨S4x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_cst_13 : Ref sig .tc := ⟨.hbm, 58, rfl⟩
abbrev main_call1_v0 : Ref sig .tc := ⟨.hbm, 59, rfl⟩
abbrev main_call1_v1 : Ref sig .tc := ⟨.hbm, 60, rfl⟩
abbrev main_v38 : Ref sig .tc := ⟨.hbm, 61, rfl⟩
abbrev main_cst_14 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_cst_16 : Ref sig .tc := ⟨.hbm, 69, rfl⟩
abbrev main_v44 : Ref sig .tc := ⟨.hbm, 70, rfl⟩
abbrev main_cst_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Proof.Trip.lean ====
/-
  What one trip of the kernel's pixel loop computes.

  A trip reads 56 rows of 128 pixels and goes through them one row at a time. The program text has
  the 56 row steps written out one after another; here the step is defined once, with the row as a
  number, and the trip's result is shown to be that step repeated 56 times.
-/
module

public import proofs.«01_k».proof.Proof.Gen.KernelIdeal.Loops

@[expose] public section

noncomputable section

namespace Cert.Loss

open Idealize.ShloMosaic Cert.KernelIdeal Cert.KernelIdeal.Gen

variable {F : FTy → Type} [FloatOps F]

/-- One of sixteen things, by number. -/
def pick {α : Type} (x0 x1 x2 x3 x4 x5 x6 x7 x8 x9 x10 x11 x12 x13 x14 x15 : α) : ℕ → α
  | 0 => x0 | 1 => x1 | 2 => x2 | 3 => x3 | 4 => x4 | 5 => x5 | 6 => x6 | 7 => x7
  | 8 => x8 | 9 => x9 | 10 => x10 | 11 => x11 | 12 => x12 | 13 => x13 | 14 => x14 | _ => x15

/-- What the loop carries: four rows of 128 partial sums, then sixteen 8-by-128 tables of the smallest
    distance met so far. -/
abbrev Carry (F : FTy → Type) : Type :=
  FVec F S1x128 .f32 × FVec F S1x128 .f32 × FVec F S1x128 .f32 × FVec F S1x128 .f32
    × FVec F S8x128 .f32 × FVec F S8x128 .f32 × FVec F S8x128 .f32 × FVec F S8x128 .f32
    × FVec F S8x128 .f32 × FVec F S8x128 .f32 × FVec F S8x128 .f32 × FVec F S8x128 .f32
    × FVec F S8x128 .f32 × FVec F S8x128 .f32 × FVec F S8x128 .f32 × FVec F S8x128 .f32
    × FVec F S8x128 .f32 × FVec F S8x128 .f32 × FVec F S8x128 .f32 × FVec F S8x128 .f32

/-- A carry from its four rows and its sixteen tables by number. -/
def mkCarry (s1 s2 near count : FVec F S1x128 .f32) (t : ℕ → FVec F S8x128 .f32) : Carry F :=
  (s1, s2, near, count, t 0, t 1, t 2, t 3, t 4, t 5, t 6, t 7, t 8, t 9, t 10, t 11, t 12, t 13,
    t 14, t 15)

/-- The sixteen tables of a carry, by number. -/
def tables (a : Carry F) (q : ℕ) : FVec F S8x128 .f32 :=
  let r := a.2.2.2.2
  pick (r.1) (r.2.1) (r.2.2.1) (r.2.2.2.1) (r.2.2.2.2.1) (r.2.2.2.2.2.1) (r.2.2.2.2.2.2.1)
    (r.2.2.2.2.2.2.2.1) (r.2.2.2.2.2.2.2.2.1) (r.2.2.2.2.2.2.2.2.2.1) (r.2.2.2.2.2.2.2.2.2.2.1)
    (r.2.2.2.2.2.2.2.2.2.2.2.1) (r.2.2.2.2.2.2.2.2.2.2.2.2.1) (r.2.2.2.2.2.2.2.2.2.2.2.2.2.1)
    (r.2.2.2.2.2.2.2.2.2.2.2.2.2.2.1) (r.2.2.2.2.2.2.2.2.2.2.2.2.2.2.2) q

/-- A one-row block at row `n % 56` lies inside a 56-row tile. -/
theorem row_fits (n : ℕ) : S56x128.Slices ![n % 56, 0] S1x128 :=
  ⟨rfl, fun a => by
    match a with
    | ⟨0, _⟩ => exact Nat.mod_lt n (by decide)
    | ⟨1, _⟩ => exact le_rfl⟩

/-- Row `n` of a tile. -/
def rowOf (tg : FVec F S56x128 .f32) (n : ℕ) : FVec F S1x128 .f32 :=
  extractStridedSlice S1x128 ![n % 56, 0] tg (row_fits n)

/-- Which pixels of row `n` are valid: those of at least 0.001. -/
def validRow (tg : FVec F S56x128 .f32) (n : ℕ) : IVec S1x128 1 :=
  cmpf .oge (rowOf tg n) (broadcast S1x128 (Scalar.ofBits .f32 0x3A83126F#32))

/-- Row `n` with every pixel that is not valid replaced by `big`. -/
def pixelRow (big : F .f32) (tg : FVec F S56x128 .f32) (n : ℕ) : FVec F S1x128 .f32 :=
  select (validRow tg n) (rowOf tg n) (broadcast S1x128 big)

/-- The distances from eight bin centres to the 128 pixels of row `n`. -/
def distRow (b : FVec F S8x1 .f32) (big : F .f32) (tg : FVec F S56x128 .f32) (n : ℕ) :
    FVec F S8x128 .f32 :=
  absf (subf (broadcastTo S8x128 (pixelRow big tg n) broadcasts_S1x128_S8x128)
    (broadcastTo S8x128 b broadcasts_S8x1_S8x128))

/-- A table after the first `n` rows of the tile. -/
def tableAfter (b : FVec F S8x1 .f32) (big : F .f32) (tg : FVec F S56x128 .f32)
    (r : FVec F S8x128 .f32) (n : ℕ) : FVec F S8x128 .f32 :=
  Nat.rec r (fun j t => minimumf t (distRow b big tg j)) n

/-- The elementwise least of the first `n + 1` blocks of eight distances of row `j`. -/
def leastBlocks (bins : ℕ → FVec F S8x1 .f32) (big : F .f32) (tg : FVec F S56x128 .f32) (j n : ℕ) :
    FVec F S8x128 .f32 :=
  Nat.rec (distRow (bins 0) big tg j) (fun q t => minimumf t (distRow (bins (q + 1)) big tg j)) n

/-- Each pixel's distance to the nearest of all 128 centres, for row `j`. -/
def nearestRow (bins : ℕ → FVec F S8x1 .f32) (big : F .f32) (tg : FVec F S56x128 .f32) (j : ℕ) :
    FVec F S1x128 .f32 :=
  shapeCast S1x128
    (multiReduction .minimumf [0] S128 (leastBlocks bins big tg j 15) 0x7F800000#32
      reduces_S8x128_S128 (.inl rfl) rfl)
    shapeCasts_S128_S1x128

/-- The partial sums of the squared nearest distances after the first `n` rows. -/
def nearSumAfter (bins : ℕ → FVec F S8x1 .f32) (big : F .f32) (tg : FVec F S56x128 .f32)
    (s : FVec F S1x128 .f32) (n : ℕ) : FVec F S1x128 .f32 :=
  Nat.rec s (fun j t => addf t (select (validRow tg j)
    (mulf (nearestRow bins big tg j) (nearestRow bins big tg j))
    (broadcast S1x128 (Scalar.ofBits .f32 0x00000000#32)))) n

/-- The partial counts of valid pixels after the first `n` rows. -/
def countAfter (tg : FVec F S56x128 .f32) (s : FVec F S1x128 .f32) (n : ℕ) : FVec F S1x128 .f32 :=
  Nat.rec s (fun j t => addf t (select (validRow tg j)
    (broadcast S1x128 (Scalar.ofBits .f32 0x3F800000#32))
    (broadcast S1x128 (Scalar.ofBits .f32 0x00000000#32)))) n

/-- The differences of logarithms of a tile. -/
def logDiff (tg pr : FVec F S56x128 .f32) : FVec F S56x128 .f32 := subf (log pr) (log tg)

/-- A row of partial sums plus the column sums of a tile. -/
def addColumns (s : FVec F S1x128 .f32) (x : FVec F S56x128 .f32) : FVec F S1x128 .f32 :=
  addf s (shapeCast S1x128
    (multiReduction .add [0] S128 x 0x00000000#32 reduces_S56x128_S128 (.inl rfl) rfl)
    shapeCasts_S128_S1x128)

/-- The 56 rows of an image block which trip `k` reads. -/
def tileAt (M : Memref sig .tc .vmem S1x392x128 .f32) (X : BufTy.Contents (Elt F) M.view.ty)
    (k : Fin k0_t1_loop.trips) : FVec F S56x128 .f32 :=
  shapeCast S56x128
    (View.readAt (Elt F) M.view (Rect.unit (s := S1x392x128) (k0_off1 k) S1x56x128.size (k0_off1_inb k)).toLoadRect X)
    shapeCasts_S1x56x128_S56x128

/-- What a trip makes of a carry, from the centres and the trip's two tiles. -/
def nextCarry (bins : ℕ → FVec F S8x1 .f32) (big : F .f32) (tg pr : FVec F S56x128 .f32)
    (a : Carry F) : Carry F :=
  mkCarry (addColumns a.1 (logDiff tg pr))
    (addColumns a.2.1 (mulf (logDiff tg pr) (logDiff tg pr)))
    (nearSumAfter bins big tg a.2.2.1 56)
    (countAfter tg a.2.2.2.1 56)
    (fun q => tableAfter (bins q) big tg (tables a q) 56)

variable (𝒱 : Variants) (c : Dev nD) (bd : Option 𝒱.V) (i : grid0.Coords)
  (arg1 : Memref sig .tc .vmem S1x128x1 .f32) (harg1 : arg1.IsWhole)
  (arg2 : Memref sig .tc .vmem S1x128x1 .f32) (harg2 : arg2.IsWhole)
  (arg3 : Memref sig .tc .vmem S1x392x128 .f32) (harg3 : arg3.IsWhole)
  (arg4 : Memref sig .tc .vmem S1x392x128 .f32) (harg4 : arg4.IsWhole)
  (arg5 : Memref sig .tc .vmem S1x1 .f32) (harg5 : arg5.IsWhole)
  (arg6 : Memref sig .tc .smem S3 .f32) (harg6 : arg6.IsWhole)
  (v10 v11 v12 v13 v14 v15 v16 v17 v18 v19 v20 v21 v22 v23 v24 v25 : FVec F S8x1 .f32)
  (v26 : FVec F S1x128 .f32)
  (v27 v28 v29 v30 v31 v32 v33 v34 v35 v36 : FVec F S8x128 .f32) (cst_17 cst_23 : F .f32)
  (X3 : BufTy.Contents (Elt F) arg3.view.ty) (X4 : BufTy.Contents (Elt F) arg4.view.ty)
  (k : Fin k0_t1_loop.trips) (a : Carry F)

set_option maxHeartbeats 0 in
/-- One trip of the printed loop is `nextCarry`. -/
theorem trip_eq :
    tripR_k0_t1 𝒱 c bd i arg1 harg1 arg2 harg2 arg3 harg3 arg4 harg4 arg5 harg5 arg6 harg6
      v10 v11 v12 v13 v14 v15 v16 v17 v18 v19 v20 v21 v22 v23 v24 v25 v26
      v27 v28 v29 v30 v31 v32 v33 v34 v35 v36 cst_17 cst_23 X3 X4 k a
    = nextCarry (pick v10 v11 v12 v13 v14 v15 v16 v17 v18 v19 v20 v21 v22 v23 v24 v25) cst_23
        (tileAt arg3 X3 k) (tileAt arg4 X4 k) a := by
  unfold tripR_k0_t1 trip_k0_t1
  rfl

end Cert.Loss

end
-- ==== Proof.Sweep.lean ====
/-
  The kernel's pixel loop over one image: seven trips, each over the next 56 rows.
-/
module

public import proofs.«01_k».proof.Proof.Trip
public import Idealize.ShloMosaic.Lib.Pipeline.ValueKit.Tiles
public import Idealize.ShloMosaic.Lib.Pointwise

@[expose] public section

noncomputable section

namespace Cert.Loss

open Idealize.ShloMosaic Cert.KernelIdeal Cert.KernelIdeal.Gen

variable {F : FTy → Type} [FloatOps F]

/-- Rows `56 k` to `56 k + 55` of an image block. -/
def tileOf (x : Vec F S1x392x128 .f32) (k : ℕ) : FVec F S56x128 .f32 := fun j =>
  x (ix3 0 ⟨(56 * k + (j 0).val) % 392, Nat.mod_lt _ (by decide)⟩ (j 1))

/-- The loop runs seven times. -/
theorem trips_eq : k0_t1_loop.trips = 7 := by decide +kernel

/-- What trip `k` reads of a whole block is that block's rows `56 k` to `56 k + 55`. -/
theorem tileAt_unread (M : Memref sig .tc .vmem S1x392x128 .f32) (hM : M.IsWhole)
    (x : Vec F S1x392x128 .f32) (k : Fin k0_t1_loop.trips) :
    tileAt M (hM.unread x) k = tileOf x k.val := by
  have hk : k.val < 7 := Nat.lt_of_lt_of_le k.isLt k0_t1_abs.2.1
  unfold tileAt
  rw [View.readAt_eq_ld, hM.read_unread]
  funext j
  unfold tileOf
  have h0 : (j 0).val < 56 := (j 0).isLt
  have hc : ∀ v : FVec F S1x56x128 .f32, shapeCast S56x128 v shapeCasts_S1x56x128_S56x128 j
      = v (ix3 0 (j 0) (j 1)) := fun v => by pointwise
  rw [hc]
  apply View.ld_unit_apply_of
  intro a
  refine Eq.trans ?_ (congrArg (· + _) (congrFun (k0_off1_eq k) a).symm)
  fin_cases a
  · rfl
  · exact Nat.mod_eq_of_lt (by omega)
  · exact (Nat.zero_add _).symm

/-- The loop's carry before trip `n`. -/
def carryAfter (bins : ℕ → FVec F S8x1 .f32) (big : F .f32) (x y : Vec F S1x392x128 .f32)
    (init : Carry F) (n : ℕ) : Carry F :=
  Nat.rec init (fun k a => nextCarry bins big (tileOf x k) (tileOf y k) a) n

variable (𝒱 : Variants) (c : Dev nD) (bd : Option 𝒱.V) (i : grid0.Coords)
  (arg1 : Memref sig .tc .vmem S1x128x1 .f32) (harg1 : arg1.IsWhole)
  (arg2 : Memref sig .tc .vmem S1x128x1 .f32) (harg2 : arg2.IsWhole)
  (arg3 : Memref sig .tc .vmem S1x392x128 .f32) (harg3 : arg3.IsWhole)
  (arg4 : Memref sig .tc .vmem S1x392x128 .f32) (harg4 : arg4.IsWhole)
  (arg5 : Memref sig .tc .vmem S1x1 .f32) (harg5 : arg5.IsWhole)
  (arg6 : Memref sig .tc .smem S3 .f32) (harg6 : arg6.IsWhole)
  (v10 v11 v12 v13 v14 v15 v16 v17 v18 v19 v20 v21 v22 v23 v24 v25 : FVec F S8x1 .f32)
  (v26 : FVec F S1x128 .f32)
  (v27 v28 v29 v30 v31 v32 v33 v34 v35 v36 : FVec F S8x128 .f32) (cst_17 cst_23 : F .f32)
  (x y : Vec F S1x392x128 .f32) (init : Carry F)

/-- The printed loop's carried value after `n` trips. -/
theorem st_eq (n : ℕ) (hn : n ≤ k0_t1_loop.trips) :
    st_k0_t1 𝒱 c bd i arg1 harg1 arg2 harg2 arg3 harg3 arg4 harg4 arg5 harg5 arg6 harg6
      v10 v11 v12 v13 v14 v15 v16 v17 v18 v19 v20 v21 v22 v23 v24 v25 v26
      v27 v28 v29 v30 v31 v32 v33 v34 v35 v36 cst_17 cst_23 (harg3.unread x) (harg4.unread y) init n
    = carryAfter (pick v10 v11 v12 v13 v14 v15 v16 v17 v18 v19 v20 v21 v22 v23 v24 v25) cst_23 x y
        init n := by
  induction n with
  | zero => rfl
  | succ n ih =>
    rw [st_k0_t1_succ (k := ⟨n, hn⟩), ih (Nat.le_of_succ_le hn), trip_eq, tileAt_unread, tileAt_unread]
    rfl

end Cert.Loss

end
-- ==== Proof.Point.lean ====
/-
  What one grid point (one image) leaves in the three running totals, and what the last point writes
  out.
-/
module

public import proofs.«01_k».proof.Proof.Sweep
public import proofs.«01_k».proof.Proof.Gen.KernelIdeal.Value
public import Idealize.ShloMosaic.Lib.WritesUnit

@[expose] public section

noncomputable section

namespace Cert.Loss

open Idealize.ShloMosaic Idealize.ShloMosaic.TcCoe Cert.KernelIdeal Cert.KernelIdeal.Gen

variable {F : FTy → Type} [FloatOps F]

/-- 1e10, which stands in for a pixel that is not valid and for "no distance yet". -/
def big : F .f32 := Scalar.ofBits .f32 0x501502F9#32

/-- The sixteen blocks of eight bin centres, from the lower and the upper edges. -/
def centres (v3 v5 : Vec F S1x128x1 .f32) : ℕ → FVec F S8x1 .f32 :=
  pick (k0_pay2169 v3 v5) (k0_pay2170 v3 v5) (k0_pay2171 v3 v5) (k0_pay2172 v3 v5)
    (k0_pay2173 v3 v5) (k0_pay2174 v3 v5) (k0_pay2175 v3 v5) (k0_pay2176 v3 v5)
    (k0_pay2177 v3 v5) (k0_pay2178 v3 v5) (k0_pay2179 v3 v5) (k0_pay2180 v3 v5)
    (k0_pay2181 v3 v5) (k0_pay2182 v3 v5) (k0_pay2183 v3 v5) (k0_pay2184 v3 v5)

/-- A row of zeros. -/
def zeroRow : FVec F S1x128 .f32 := broadcast S1x128 (Scalar.ofBits .f32 0x00000000#32)

/-- The carry with which the loop begins. -/
def startCarry : Carry F :=
  mkCarry zeroRow zeroRow zeroRow zeroRow (fun _ => broadcast S8x128 big)

/-- The carry with which an image's loop ends. -/
def sweep (x0 x1 : Vec F S1x128x1 .f32) (x2 x3 : Vec F S1x392x128 .f32) : Carry F :=
  carryAfter (centres x0 x1) big x2 x3 startCarry 7

/-- The sum of a row of 128. -/
def rowTotal (v : FVec F S1x128 .f32) : F .f32 :=
  extractAt ![0, 0, 0]
    (shapeCast S1x1x1
      (multiReduction .add [1, 2] S1 (shapeCast S1x1x128 v shapeCasts_S1x128_S1x1x128) 0x00000000#32
        reduces_S1x1x128_S1 (.inl rfl) rfl) shapeCasts_S1_S1x1x1) inpos_S1x1x1_p0_0_0

/-- The least entry of each row of a table. -/
def rowLeast (t : FVec F S8x128 .f32) : FVec F S8 .f32 :=
  multiReduction .minimumf [1] S8 t 0x7F800000#32 reduces_S8x128_S8 (.inl rfl) rfl

/-- The sum of the squares of the rows' least entries of one table. -/
def tableShare (t : FVec F S8x128 .f32) : F .f32 :=
  extractAt ![0, 0]
    (shapeCast S1x1
      (multiReduction .add [1] S1 (shapeCast S1x8 (mulf (rowLeast t) (rowLeast t)) shapeCasts_S8_S1x8)
        0x00000000#32 reduces_S1x8_S1 (.inl rfl) rfl) shapeCasts_S1_S1x1) inpos_S1x1_p0_0

/-- The shares of the first `n` tables, summed. -/
def tablesShare (t : ℕ → FVec F S8x128 .f32) (n : ℕ) : F .f32 :=
  Nat.rec (Scalar.ofBits .f32 0x00000000#32) (fun q s => Scalar.addf s (tableShare (t q))) n

/-- The mean over the valid pixels (counted as at least one) of the squared nearest distances. -/
def nearMean (near count : FVec F S1x128 .f32) : F .f32 :=
  Scalar.divf (rowTotal near) (Scalar.maximumf (rowTotal count) (Scalar.ofBits .f32 0x3F800000#32))

/-- The three totals after an image, from the loop's last carry and the totals before. -/
def total0 (a : Carry F) (e : Elt F .f32) : F .f32 := Scalar.addf e (rowTotal a.1)
@[inherit_doc total0]
def total1 (a : Carry F) (e : Elt F .f32) : F .f32 := Scalar.addf e (rowTotal a.2.1)
@[inherit_doc total0]
def total2 (a : Carry F) (e : Elt F .f32) : F .f32 :=
  Scalar.addf
    (Scalar.addf e (Scalar.divf (tablesShare (tables a) 16) (Scalar.ofBits .f32 0x43000000#32)))
    (nearMean a.2.2.1 a.2.2.2.1)

/-- Three scalars as a vector. -/
def threeOf {α : Type} (e0 e1 e2 : α) : S3.Idx → α := fun j =>
  match (j 0).val with | 0 => e0 | 1 => e1 | _ => e2

/-- The running totals after an image, from those before it. -/
def addImage (x0 x1 : Vec F S1x128x1 .f32) (x2 x3 : Vec F S1x392x128 .f32) (e : Vec F S3 .f32) :
    Vec F S3 .f32 :=
  threeOf (total0 (sweep x0 x1 x2 x3) (e (ix1 0))) (total1 (sweep x0 x1 x2 x3) (e (ix1 1)))
    (total2 (sweep x0 x1 x2 x3) (e (ix1 2)))

/-- The loss from the last totals. -/
def lossOf (e : Vec F S3 .f32) : Vec F S1x1 .f32 := k0_pay2 (e (ix1 0)) (e (ix1 1)) (e (ix1 2))

section Pieces

variable (c : Dev nD) (i : grid0.Coords)
  (arg1 : Memref sig .tc .vmem S1x128x1 .f32) (harg1 : arg1.IsWhole)
  (arg2 : Memref sig .tc .vmem S1x128x1 .f32) (harg2 : arg2.IsWhole)
  (arg3 : Memref sig .tc .vmem S1x392x128 .f32) (harg3 : arg3.IsWhole)
  (arg4 : Memref sig .tc .vmem S1x392x128 .f32) (harg4 : arg4.IsWhole)
  (arg5 : Memref sig .tc .vmem S1x1 .f32) (harg5 : arg5.IsWhole)
  (arg6 : Memref sig .tc .smem S3 .f32) (harg6 : arg6.IsWhole)
  (x0 x1 : Vec F S1x128x1 .f32) (x2 x3 : Vec F S1x392x128 .f32) (xs0 : Vec F S3 .f32)

/-- The printed loop's last carry at a point, over that point's memory. -/
def loopEnd : Carry F :=
  let v3 := View.readAt (Elt F) arg1.view (Rect.unit (s := S1x128x1) ![0, 0, 0] S1x128x1.size inb_S1x128x1_S1x128x1_0_0_0).toLoadRect (harg1.unread x0)
  let v5 := View.readAt (Elt F) arg2.view (Rect.unit (s := S1x128x1) ![0, 0, 0] S1x128x1.size inb_S1x128x1_S1x128x1_0_0_0).toLoadRect (harg2.unread x1)
  st_k0_t1 Variants.none c none i arg1 harg1 arg2 harg2 arg3 harg3 arg4 harg4 arg5 harg5 arg6 harg6
    (k0_pay2169 v3 v5) (k0_pay2170 v3 v5) (k0_pay2171 v3 v5) (k0_pay2172 v3 v5)
    (k0_pay2173 v3 v5) (k0_pay2174 v3 v5) (k0_pay2175 v3 v5) (k0_pay2176 v3 v5)
    (k0_pay2177 v3 v5) (k0_pay2178 v3 v5) (k0_pay2179 v3 v5) (k0_pay2180 v3 v5)
    (k0_pay2181 v3 v5) (k0_pay2182 v3 v5) (k0_pay2183 v3 v5) (k0_pay2184 v3 v5)
    k0_pay2185 k0_pay2186 k0_pay2187 k0_pay2188 k0_pay2189 k0_pay2190 k0_pay2191 k0_pay2192 k0_pay2193
    k0_pay2194 k0_pay2195 big big (harg3.unread x2) (harg4.unread x3) startCarry k0_t1_loop.trips

/-- It is the sweep over the point's blocks. -/
theorem loopEnd_eq :
    loopEnd c i arg1 harg1 arg2 harg2 arg3 harg3 arg4 harg4 arg5 harg5 arg6 harg6 x0 x1 x2 x3
      = sweep x0 x1 x2 x3 := by
  have h3 : View.readAt (Elt F) arg1.view (Rect.unit (s := S1x128x1) ![0, 0, 0] S1x128x1.size
      inb_S1x128x1_S1x128x1_0_0_0).toLoadRect (harg1.unread x0) = x0 := by
    rw [View.readAt_eq_ld, harg1.read_unread]
    exact View.ld_unit_zero (by funext a; fin_cases a <;> rfl) _ _
  have h5 : View.readAt (Elt F) arg2.view (Rect.unit (s := S1x128x1) ![0, 0, 0] S1x128x1.size
      inb_S1x128x1_S1x128x1_0_0_0).toLoadRect (harg2.unread x1) = x1 := by
    rw [View.readAt_eq_ld, harg2.read_unread]
    exact View.ld_unit_zero (by funext a; fin_cases a <;> rfl) _ _
  unfold loopEnd
  simp only [h3, h5]
  refine (st_eq (hn := le_rfl) ..).trans ?_
  rw [trips_eq]
  rfl

/-- Entry `j` of the running totals, as the body reads it. -/
def readTotal (j : Fin 3) : Elt F .f32 :=
  View.readAt (Elt F) arg6.view (Rect.unit (s := S3) ![j.val] S1.size (by intro a; fin_cases a; exact j.isLt)).toLoadRect
    (harg6.unread xs0) (Shape.Idx.first (numel1_S1.symm ▸ Nat.one_pos))

/-- Three scalars stored one after another into the running totals. -/
def threeStores (e0 e1 e2 : F .f32) : List (View.Piece (Elt F) S3 .f32) :=
  [⟨Rect.unit (s := S3) ![2] S1.size inb_S3_S1_2, fun _ => e2⟩,
   ⟨Rect.unit (s := S3) ![1] S1.size inb_S3_S1_1, fun _ => e1⟩,
   ⟨Rect.unit (s := S3) ![0] S1.size inb_S3_S1_0, fun _ => e0⟩]

/-- What the first point stores: the totals from zero, over the zeros it stores before. -/
theorem stores_A (hc0 : cond0_0 i) (hc1 : ¬cond0_1 i) :
    (kernelRun0_A c i arg1 harg1 arg2 harg2 arg3 harg3 arg4 harg4 arg5 harg5 arg6 harg6 hc0 hc1
      x0 x1 x2 x3).2.1
    = threeStores
        (total0 (loopEnd c i arg1 harg1 arg2 harg2 arg3 harg3 arg4 harg4 arg5 harg5 arg6 harg6 x0 x1 x2 x3)
          (Scalar.ofBits .f32 0x00000000#32))
        (total1 (loopEnd c i arg1 harg1 arg2 harg2 arg3 harg3 arg4 harg4 arg5 harg5 arg6 harg6 x0 x1 x2 x3)
          (Scalar.ofBits .f32 0x00000000#32))
        (total2 (loopEnd c i arg1 harg1 arg2 harg2 arg3 harg3 arg4 harg4 arg5 harg5 arg6 harg6 x0 x1 x2 x3)
          (Scalar.ofBits .f32 0x00000000#32))
      ++ threeStores (Scalar.ofBits .f32 0x00000000#32) (Scalar.ofBits .f32 0x00000000#32) (Scalar.ofBits .f32 0x00000000#32) := by
  rfl

/-- What a middle point stores. -/
theorem stores_B (hc0 : ¬cond0_0 i) (hc1 : ¬cond0_1 i) :
    (kernelRun0_B c i arg1 harg1 arg2 harg2 arg3 harg3 arg4 harg4 arg5 harg5 arg6 harg6 hc0 hc1
      x0 x1 x2 x3 xs0).2.1
    = threeStores
        (total0 (loopEnd c i arg1 harg1 arg2 harg2 arg3 harg3 arg4 harg4 arg5 harg5 arg6 harg6 x0 x1 x2 x3)
          (readTotal arg6 harg6 xs0 0))
        (total1 (loopEnd c i arg1 harg1 arg2 harg2 arg3 harg3 arg4 harg4 arg5 harg5 arg6 harg6 x0 x1 x2 x3)
          (readTotal arg6 harg6 xs0 1))
        (total2 (loopEnd c i arg1 harg1 arg2 harg2 arg3 harg3 arg4 harg4 arg5 harg5 arg6 harg6 x0 x1 x2 x3)
          (readTotal arg6 harg6 xs0 2)) := by
  rfl

/-- What the last point stores. -/
theorem stores_C (hc0 : ¬cond0_0 i) (hc1 : cond0_1 i) :
    (kernelRun0_C c i arg1 harg1 arg2 harg2 arg3 harg3 arg4 harg4 arg5 harg5 arg6 harg6 hc0 hc1
      x0 x1 x2 x3 xs0).2.1
    = threeStores
        (total0 (loopEnd c i arg1 harg1 arg2 harg2 arg3 harg3 arg4 harg4 arg5 harg5 arg6 harg6 x0 x1 x2 x3)
          (readTotal arg6 harg6 xs0 0))
        (total1 (loopEnd c i arg1 harg1 arg2 harg2 arg3 harg3 arg4 harg4 arg5 harg5 arg6 harg6 x0 x1 x2 x3)
          (readTotal arg6 harg6 xs0 1))
        (total2 (loopEnd c i arg1 harg1 arg2 harg2 arg3 harg3 arg4 harg4 arg5 harg5 arg6 harg6 x0 x1 x2 x3)
          (readTotal arg6 harg6 xs0 2)) := by
  rfl

/-- What the last point writes out. -/
theorem output_C (hc0 : ¬cond0_0 i) (hc1 : cond0_1 i) :
    (kernelRun0_C c i arg1 harg1 arg2 harg2 arg3 harg3 arg4 harg4 arg5 harg5 arg6 harg6 hc0 hc1
      x0 x1 x2 x3 xs0).1
    = [⟨Rect.unit (s := S1x1) ![0, 0] S1x1.size inb_S1x1_S1x1_0_0, k0_pay2
        (total0 (loopEnd c i arg1 harg1 arg2 harg2 arg3 harg3 arg4 harg4 arg5 harg5 arg6 harg6 x0 x1 x2 x3)
          (readTotal arg6 harg6 xs0 0))
        (total1 (loopEnd c i arg1 harg1 arg2 harg2 arg3 harg3 arg4 harg4 arg5 harg5 arg6 harg6 x0 x1 x2 x3)
          (readTotal arg6 harg6 xs0 1))
        (total2 (loopEnd c i arg1 harg1 arg2 harg2 arg3 harg3 arg4 harg4 arg5 harg5 arg6 harg6 x0 x1 x2 x3)
          (readTotal arg6 harg6 xs0 2))⟩] := by
  rfl

omit [FloatOps F] in
/-- Three stores, read back. -/
theorem read_threeStores [∀ e, Nonempty (Elt F e)] (f : BufTy.Contents (Elt F) VS0_0.ty) (e0 e1 e2 : F .f32)
    (L : List (View.Piece (Elt F) S3 .f32)) :
    VS0_0.read (Elt F) (VS0_0.writes (Elt F) f (threeStores e0 e1 e2 ++ L)) = threeOf e0 e1 e2 := by
  funext y
  have hy : (y 0).val < 3 := (y 0).isLt
  unfold threeStores threeOf
  simp only [List.cons_append, List.nil_append]
  obtain h | h | h : (y 0).val = 0 ∨ (y 0).val = 1 ∨ (y 0).val = 2 := by omega
  · rw [View.read_writes_cons_unit_of_not_mem _ _ _ _ _ _ rfl 0 (.inl (by rw [h]; decide)),
      View.read_writes_cons_unit_of_not_mem _ _ _ _ _ _ rfl 0 (.inl (by rw [h]; decide)),
      View.read_writes_cons_unit_of_mem _ _ _ _ _ _ (ix1 0) rfl (fun a => by fin_cases a; exact h)]
    simp only [h]
  · rw [View.read_writes_cons_unit_of_not_mem _ _ _ _ _ _ rfl 0 (.inl (by rw [h]; decide)),
      View.read_writes_cons_unit_of_mem _ _ _ _ _ _ (ix1 0) rfl (fun a => by fin_cases a; exact h)]
    simp only [h]
  · rw [View.read_writes_cons_unit_of_mem _ _ _ _ _ _ (ix1 0) rfl (fun a => by fin_cases a; exact h)]
    simp only [h]

/-- Reading entry `j` of the running totals. -/
theorem readTotal_eq (j : Fin 3) : readTotal arg6 harg6 xs0 j = xs0 (ix1 j) := by
  unfold readTotal
  rw [View.readAt_eq_ld, harg6.read_unread]
  exact View.ld_unit_apply_of _ _ _ _ _ _ (fun a => by fin_cases a; rfl)

/-- The totals after the first point. -/
theorem totals_A (hc0 : cond0_0 i) (hc1 : ¬cond0_1 i) :
    sout0_A_0 c i arg1 harg1 arg2 harg2 arg3 harg3 arg4 harg4 arg5 harg5 arg6 harg6 hc0 hc1 x0 x1 x2 x3
    = addImage x0 x1 x2 x3 (fun _ => Scalar.ofBits .f32 0x00000000#32) := by
  unfold sout0_A_0
  rw [stores_A, read_threeStores, loopEnd_eq]
  rfl

/-- The totals after a middle point. -/
theorem totals_B (hc0 : ¬cond0_0 i) (hc1 : ¬cond0_1 i) :
    sout0_B_0 c i arg1 harg1 arg2 harg2 arg3 harg3 arg4 harg4 arg5 harg5 arg6 harg6 hc0 hc1 x0 x1 x2 x3 xs0
    = addImage x0 x1 x2 x3 xs0 := by
  unfold sout0_B_0
  rw [stores_B, loopEnd_eq, ← List.append_nil (threeStores _ _ _), read_threeStores]
  simp only [readTotal_eq]
  rfl

/-- What the last point writes out. -/
theorem result_C (hc0 : ¬cond0_0 i) (hc1 : cond0_1 i) :
    out0_C_4 c i arg1 harg1 arg2 harg2 arg3 harg3 arg4 harg4 arg5 harg5 arg6 harg6 hc0 hc1 x0 x1 x2 x3 xs0
    = lossOf (addImage x0 x1 x2 x3 xs0) := by
  unfold out0_C_4
  rw [output_C, loopEnd_eq]
  simp only [readTotal_eq]
  funext y
  rw [View.read_writes_cons_unit_of_mem _ _ _ _ _ _ y rfl (fun a => by fin_cases a <;> exact (Nat.zero_add _).symm)]
  rfl

end Pieces

variable (m : (ℓ : Loc nD τ sig) → Buf (Elt F) ℓ)

/-- The grid point of image `n`. -/
def pt (n : Fin 4) : Fin cfg0.N := ⟨n.val, lt_of_lt_of_eq n.isLt N_0.symm⟩

/-- Image `n`, added to the totals. -/
def addPoint (c : Dev nD) (n : Fin 4) (e : Vec F S3 .f32) : Vec F S3 .f32 :=
  addImage (iblk m c 0 (pt n)) (iblk m c 1 (pt n)) (iblk m c 2 (pt n)) (iblk m c 3 (pt n)) e

/-- The kernel's result: the loss of the totals after the four images, one after another. -/
theorem result_eq (c : Dev nD) : Value.G4 m c =
    lossOf (addPoint m c 3 (addPoint m c 2 (addPoint m c 1 (addPoint m c 0
      (fun _ => Scalar.ofBits .f32 0x00000000#32))))) := by
  have hA : (Value.stAt0 m c 0 (pt 0).isLt Value.junk0).2
      = addPoint m c 0 (fun _ => Scalar.ofBits .f32 0x00000000#32) :=
    (congrArg Prod.snd (Value.stAt0_A m c (pt 0) Value.junk0 rfl (by decide))).trans
      (totals_A (F := F) (hc0 := (hcond0_0 (pt 0)).mpr rfl)
        (hc1 := fun h => absurd ((hcond0_1 (pt 0)).mp h) (by decide)) ..)
  have hB : ∀ acc, (Value.stAt0 m c 1 (pt 1).isLt acc).2 = addPoint m c 1 acc.2 := fun acc =>
    (congrArg Prod.snd (Value.stAt0_B m c (pt 1) acc (by decide) (by decide))).trans
      (totals_B (F := F) (hc0 := fun h => absurd ((hcond0_0 (pt 1)).mp h) (by decide))
        (hc1 := fun h => absurd ((hcond0_1 (pt 1)).mp h) (by decide)) ..)
  have hB' : ∀ acc, (Value.stAt0 m c 2 (pt 2).isLt acc).2 = addPoint m c 2 acc.2 := fun acc =>
    (congrArg Prod.snd (Value.stAt0_B m c (pt 2) acc (by decide) (by decide))).trans
      (totals_B (F := F) (hc0 := fun h => absurd ((hcond0_0 (pt 2)).mp h) (by decide))
        (hc1 := fun h => absurd ((hcond0_1 (pt 2)).mp h) (by decide)) ..)
  have hC : ∀ acc, (Value.stAt0 m c 3 (pt 3).isLt acc).1 = lossOf (addPoint m c 3 acc.2) := fun acc =>
    (congrArg Prod.fst (Value.stAt0_C m c (pt 3) acc (by decide) rfl)).trans
      (result_C (F := F) (hc0 := fun h => absurd ((hcond0_0 (pt 3)).mp h) (by decide))
        (hc1 := (hcond0_1 (pt 3)).mpr rfl) ..)
  rw [Value.G4_last]
  refine (hC _).trans ?_
  refine congrArg (fun e => lossOf (addPoint m c 3 e)) ((hB' _).trans ?_)
  exact congrArg (addPoint m c 2) ((hB _).trans (congrArg (addPoint m c 1) hA))

end Cert.Loss

end
-- ==== Proof.Sums.lean ====
/-
  Sums and least values over a range of numbers, cut into blocks, and the numbers the programs' float
  literals stand for.
-/
module

public import Idealize.ShloMosaic.Lib.IdealHost
public import Idealize.ShloMosaic.Lib.Pointwise

@[expose] public section

noncomputable section

namespace Cert.Loss

open Idealize.ShloMosaic

/-- The least of the first `n` values of `f`, and `⊤` when there are none. -/
def least (n : ℕ) (f : ℕ → EReal) : EReal := (Finset.range n).inf f

theorem least_le {n : ℕ} (f : ℕ → EReal) {p : ℕ} (h : p < n) : least n f ≤ f p :=
  Finset.inf_le (Finset.mem_range.2 h)

theorem le_least {n : ℕ} {f : ℕ → EReal} {x : EReal} (h : ∀ p < n, x ≤ f p) : x ≤ least n f :=
  Finset.le_inf fun p hp => h p (Finset.mem_range.1 hp)

theorem least_congr {n : ℕ} {f g : ℕ → EReal} (h : ∀ p < n, f p = g p) : least n f = least n g :=
  Finset.inf_congr rfl fun p hp => h p (Finset.mem_range.1 hp)

theorem least_zero (f : ℕ → EReal) : least 0 f = ⊤ := rfl

/-- One more value. -/
theorem least_succ (n : ℕ) (f : ℕ → EReal) : least (n + 1) f = min (least n f) (f n) := by
  apply le_antisymm
  · exact le_min (le_least fun p hp => least_le f (Nat.lt_succ_of_lt hp)) (least_le f n.lt_succ_self)
  · refine le_least fun p hp => ?_
    rcases Nat.lt_succ_iff_lt_or_eq.1 hp with h | rfl
    · exact (min_le_left _ _).trans (least_le f h)
    · exact min_le_right _ _

/-- `m` more values. -/
theorem least_add (n m : ℕ) (f : ℕ → EReal) :
    least (n + m) f = min (least n f) (least m fun p => f (n + p)) := by
  induction m with
  | zero => exact (min_eq_left le_top).symm
  | succ m ih => rw [← Nat.add_assoc, least_succ, ih, least_succ, min_assoc]

/-- The least over a product of ranges, the inner one first. -/
theorem least_blocks (a b : ℕ) (f : ℕ → EReal) :
    (least b fun l => least a fun r => f (b * r + l)) = least (b * a) f := by
  apply le_antisymm
  · refine le_least fun p hp => ?_
    have hb : 0 < b := Nat.pos_of_ne_zero fun h => by simp [h] at hp
    refine (least_le _ (Nat.mod_lt p hb)).trans ((least_le _ (p := p / b) ?_).trans ?_)
    · exact Nat.div_lt_of_lt_mul hp
    · rw [Nat.div_add_mod]
  · refine le_least fun l hl => le_least fun r hr => least_le _ ?_
    calc b * r + l < b * r + b := by omega
      _ = b * (r + 1) := rfl
      _ ≤ b * a := Nat.mul_le_mul_left b hr

/-- A floor put under every value of a nonempty range is a floor put under the least. -/
theorem least_min (n : ℕ) (hn : 0 < n) (x : EReal) (f : ℕ → EReal) :
    (least n fun p => min x (f p)) = min x (least n f) := by
  apply le_antisymm
  · exact le_min ((least_le _ hn).trans (min_le_left _ _))
      (le_least fun p hp => (least_le _ hp).trans (min_le_right _ _))
  · exact le_least fun p hp => min_le_min le_rfl (least_le f hp)

/-- The least over the numbers below `n` as a fold. -/
theorem fold_least (n : ℕ) (f : Fin n → EReal) (g : ℕ → EReal) (h : ∀ p : Fin n, f p = g p) :
    Finset.fold min ⊤ f Finset.univ = least n g := by
  change Finset.univ.inf f = _
  apply le_antisymm
  · exact le_least fun p hp => (Finset.inf_le (Finset.mem_univ ⟨p, hp⟩)).trans (h ⟨p, hp⟩).le
  · exact Finset.le_inf fun p _ => (least_le g p.isLt).trans (h p).ge

/-- The sum of the first `n` values of `f`. -/
def total (n : ℕ) (f : ℕ → EReal) : EReal := ∑ p ∈ Finset.range n, f p

theorem total_congr {n : ℕ} {f g : ℕ → EReal} (h : ∀ p < n, f p = g p) : total n f = total n g :=
  Finset.sum_congr rfl fun p hp => h p (Finset.mem_range.1 hp)

theorem total_zero (f : ℕ → EReal) : total 0 f = 0 := rfl

theorem total_succ (n : ℕ) (f : ℕ → EReal) : total (n + 1) f = total n f + f n :=
  Finset.sum_range_succ f n

theorem total_add (n m : ℕ) (f : ℕ → EReal) :
    total (n + m) f = total n f + total m fun p => f (n + p) := Finset.sum_range_add f n m

/-- The sum over a product of ranges, the inner one first. -/
theorem total_blocks (a b : ℕ) (f : ℕ → EReal) :
    (total b fun l => total a fun r => f (b * r + l)) = total (b * a) f := by
  unfold total
  rw [Finset.sum_comm]
  change (total a fun r => total b fun l => f (b * r + l)) = total (b * a) f
  induction a with
  | zero => rfl
  | succ a ih => rw [total_succ, ih, Nat.mul_succ, total_add]

/-- The same with the outer one first. -/
theorem total_blocks' (a b : ℕ) (f : ℕ → EReal) :
    (total a fun r => total b fun l => f (b * r + l)) = total (b * a) f := by
  rw [← total_blocks]
  exact Finset.sum_comm

/-- A sum over the numbers below `n`. -/
theorem sum_total (n : ℕ) (f : Fin n → EReal) (g : ℕ → EReal) (h : ∀ p : Fin n, f p = g p) :
    ∑ p, f p = total n g :=
  (Finset.sum_congr rfl fun p _ => h p).trans (Finset.sum_range g).symm

/-- The number 0.001 as a float stands for it. -/
def thr : EReal := Ideal.ofBits .f32 0x3A83126F#32

/-- The number 1e10. -/
def far : EReal := Ideal.ofBits .f32 0x501502F9#32

/-- The number 1/2. -/
def half : EReal := Ideal.ofBits .f32 0x3F000000#32

theorem ofBits_inf : Ideal.ofBits .f32 0x7F800000#32 = ⊤ := by
  simp [Ideal.ofBits, Ideal.ieee]

theorem far_eq : far = ((10000000000 : ℝ) : EReal) := by
  unfold far
  simp [Ideal.ofBits, Ideal.ieee, -EReal.coe_mul]; norm_num

theorem half_eq : half = ((1 / 2 : ℝ) : EReal) := by
  unfold half
  simp [Ideal.ofBits, Ideal.ieee, -EReal.coe_mul]; norm_num

theorem thr_eq : thr = ((8589935 / 8589934592 : ℝ) : EReal) := by
  unfold thr
  simp [Ideal.ofBits, Ideal.ieee, -EReal.coe_mul]; norm_num

theorem ofBits_1e4 : Ideal.ofBits .f32 0x461C4000#32 = ((10000 : ℝ) : EReal) := by
  simp [Ideal.ofBits, Ideal.ieee, -EReal.coe_mul]; norm_num

end Cert.Loss

end
-- ==== Proof.Reading.lean ====
/-
  The pixel loop read at the real numbers: what the carry holds after some of its trips, pixel by
  pixel.
-/
module

public import proofs.«01_k».proof.Proof.Point
public import proofs.«01_k».proof.Proof.Sums

@[expose] public section

noncomputable section

namespace Cert.Loss

open Idealize.ShloMosaic Cert.KernelIdeal Cert.KernelIdeal.Gen

/-- The pixels of an image block by one number, row after row. -/
def px (x : Vec Ideal S1x392x128 .f32) (p : ℕ) : EReal :=
  x (ix3 0 ⟨p / 128 % 392, Nat.mod_lt _ (by decide)⟩ ⟨p % 128, Nat.mod_lt _ (by decide)⟩)

theorem px_row (x : Vec Ideal S1x392x128 .f32) (r : ℕ) (l : Fin 128) :
    px x (128 * r + l.val) = x (ix3 0 ⟨r % 392, Nat.mod_lt _ (by decide)⟩ l) := by
  unfold px
  have h : (128 * r + l.val) / 128 = r := by omega
  have h' : (128 * r + l.val) % 128 = l.val := by omega
  simp only [h, h']

/-- A pixel with `far` in its place when it is not valid. -/
def masked (t : EReal) : EReal := if thr ≤ t then t else far

/-- The distance of two numbers. -/
def dist (x y : EReal) : EReal := max (x - y) (-(x - y))

/-- The square of the distance from a pixel to the nearest of the 128 centres `cen`, and zero for a
    pixel that is not valid. -/
def nearSquare (cen : ℕ → EReal) (t : EReal) : EReal :=
  if thr ≤ t then
    (least 128 fun k => dist (masked t) (cen k)) * (least 128 fun k => dist (masked t) (cen k))
  else 0

/-- One for a valid pixel, zero for another. -/
def oneIf (t : EReal) : EReal := if thr ≤ t then 1 else 0

section Tile

variable (x y : Vec Ideal S1x392x128 .f32) (k : ℕ)

theorem rowOf_read (j : ℕ) (hj : j < 56) (l : Fin 128) :
    rowOf (tileOf x k) j (ix2 0 l) = px x (128 * (56 * k + j) + l.val) := by
  have h : rowOf (tileOf x k) j (ix2 0 l) = tileOf x k (ix2 ⟨j % 56, Nat.mod_lt _ (by decide)⟩ l) := by
    unfold rowOf
    pointwise
  rw [h, px_row]
  change x (ix3 0 ⟨(56 * k + j % 56) % 392, _⟩ l) = _
  simp only [Nat.mod_eq_of_lt hj]

theorem pixelRow_read (j : ℕ) (hj : j < 56) (l : Fin 128) :
    pixelRow big (tileOf x k) j (ix2 0 l) = masked (px x (128 * (56 * k + j) + l.val)) := by
  rw [← rowOf_read x k j hj l]
  unfold pixelRow validRow big masked thr far
  pointwise

theorem distRow_read (b : FVec Ideal S8x1 .f32) (j : ℕ) (hj : j < 56) (a : Fin 8) (l : Fin 128) :
    distRow b big (tileOf x k) j (ix2 a l)
      = dist (masked (px x (128 * (56 * k + j) + l.val))) (b (ix2 a 0)) := by
  rw [← pixelRow_read x k j hj l]
  unfold distRow
  pointwise
  rfl

/-- A table after `n` rows of a tile: the least of what it was and of the distances of its rows. -/
theorem tableAfter_read (b : FVec Ideal S8x1 .f32) (r : FVec Ideal S8x128 .f32) (a : Fin 8)
    (l : Fin 128) (n : ℕ) (hn : n ≤ 56) :
    tableAfter b big (tileOf x k) r n (ix2 a l)
      = min (r (ix2 a l))
          (least n fun j => dist (masked (px x (128 * (56 * k + j) + l.val))) (b (ix2 a 0))) := by
  induction n with
  | zero => exact (min_eq_left le_top).symm
  | succ n ih =>
    rw [least_succ, ← min_assoc, ← ih (Nat.le_of_succ_le hn), ← distRow_read x k b n hn a l]
    rfl

theorem leastBlocks_read (bins : ℕ → FVec Ideal S8x1 .f32) (j : ℕ) (hj : j < 56) (a : Fin 8)
    (l : Fin 128) (n : ℕ) :
    leastBlocks bins big (tileOf x k) j n (ix2 a l)
      = least (n + 1) fun q =>
          dist (masked (px x (128 * (56 * k + j) + l.val))) (bins q (ix2 a 0)) := by
  induction n with
  | zero =>
    rw [least_succ, least_zero, ← distRow_read x k _ j hj a l]
    exact (min_eq_right le_top).symm
  | succ n ih =>
    rw [least_succ, ← ih, ← distRow_read x k _ j hj a l]
    rfl

variable (cen : ℕ → EReal) (bins : ℕ → FVec Ideal S8x1 .f32)
  (hbins : ∀ q < 16, ∀ a : Fin 8, bins q (ix2 a 0) = cen (8 * q + a.val))

include hbins

theorem nearestRow_read (j : ℕ) (hj : j < 56) (l : Fin 128) :
    nearestRow bins big (tileOf x k) j (ix2 0 l)
      = least 128 fun q => dist (masked (px x (128 * (56 * k + j) + l.val))) (cen q) := by
  have h : nearestRow bins big (tileOf x k) j (ix2 0 l)
      = Finset.fold min (Ideal.ofBits .f32 0x7F800000#32)
          (fun a : Fin 8 => leastBlocks bins big (tileOf x k) j 15 (ix2 a l)) Finset.univ := by
    unfold nearestRow
    pointwise
  rw [h, ofBits_inf, ← least_blocks 16 8]
  refine fold_least 8 _ _ fun a => ?_
  rw [leastBlocks_read x k bins j hj a l]
  exact least_congr fun q hq => by rw [hbins q hq a]

theorem nearSumAfter_read (s : FVec Ideal S1x128 .f32) (l : Fin 128) (n : ℕ) (hn : n ≤ 56) :
    nearSumAfter bins big (tileOf x k) s n (ix2 0 l)
      = s (ix2 0 l) + total n fun j => nearSquare cen (px x (128 * (56 * k + j) + l.val)) := by
  induction n with
  | zero => rw [total_zero, add_zero]; rfl
  | succ n ih =>
    rw [total_succ, ← add_assoc, ← ih (Nat.le_of_succ_le hn)]
    have h : nearSumAfter bins big (tileOf x k) s (n + 1) (ix2 0 l)
        = nearSumAfter bins big (tileOf x k) s n (ix2 0 l)
          + if thr ≤ rowOf (tileOf x k) n (ix2 0 l) then
              nearestRow bins big (tileOf x k) n (ix2 0 l)
                * nearestRow bins big (tileOf x k) n (ix2 0 l) else 0 := by
      change addf (nearSumAfter bins big (tileOf x k) s n) _ _ = _
      unfold validRow thr
      pointwise [Ideal.ofBits_zero_f32]
    rw [h, rowOf_read x k n hn l, nearestRow_read x k cen bins hbins n hn l]
    rfl

omit hbins

theorem countAfter_read (s : FVec Ideal S1x128 .f32) (l : Fin 128) (n : ℕ) (hn : n ≤ 56) :
    countAfter (tileOf x k) s n (ix2 0 l)
      = s (ix2 0 l) + total n fun j => oneIf (px x (128 * (56 * k + j) + l.val)) := by
  induction n with
  | zero => rw [total_zero, add_zero]; rfl
  | succ n ih =>
    rw [total_succ, ← add_assoc, ← ih (Nat.le_of_succ_le hn)]
    have h : countAfter (tileOf x k) s (n + 1) (ix2 0 l)
        = countAfter (tileOf x k) s n (ix2 0 l)
          + if thr ≤ rowOf (tileOf x k) n (ix2 0 l) then 1 else 0 := by
      change addf (countAfter (tileOf x k) s n) _ _ = _
      unfold validRow thr
      pointwise [Ideal.ofBits_zero_f32, Ideal.ofBits_one_f32]
    rw [h, rowOf_read x k n hn l]
    rfl

/-- The difference of the logarithms of pixel `p` of the two images. -/
def logGap (p : ℕ) : EReal := Ideal.log (px y p) - Ideal.log (px x p)

theorem logDiff_read (j : Fin 56) (l : Fin 128) :
    logDiff (tileOf x k) (tileOf y k) (ix2 j l)
      = logGap x y (128 * (56 * k + j.val) + l.val) := by
  have h : logDiff (tileOf x k) (tileOf y k) (ix2 j l)
      = Ideal.log (tileOf y k (ix2 j l)) - Ideal.log (tileOf x k (ix2 j l)) := by
    unfold logDiff
    pointwise
  rw [h, logGap, px_row, px_row]
  rfl

theorem addColumns_read (s : FVec Ideal S1x128 .f32) (v : FVec Ideal S56x128 .f32) (l : Fin 128)
    (f : ℕ → EReal) (h : ∀ j : Fin 56, v (ix2 j l) = f j.val) :
    addColumns s v (ix2 0 l) = s (ix2 0 l) + total 56 f := by
  have e : addColumns s v (ix2 0 l) = s (ix2 0 l) + ∑ j, v (ix2 j l) := by
    unfold addColumns
    pointwise
  rw [e, sum_total 56 _ f h]

end Tile

/-- Table `q` of a carry put together is the `q`-th it was put together from. -/
theorem tables_mkCarry (s1 s2 s3 s4 : FVec Ideal S1x128 .f32) (t : ℕ → FVec Ideal S8x128 .f32)
    (q : ℕ) (hq : q < 16) : tables (mkCarry s1 s2 s3 s4 t) q = t q := by
  interval_cases q <;> rfl

section Sweep

variable (x y : Vec Ideal S1x392x128 .f32) (cen : ℕ → EReal) (bins : ℕ → FVec Ideal S8x1 .f32)
  (hbins : ∀ q < 16, ∀ a : Fin 8, bins q (ix2 a 0) = cen (8 * q + a.val))

/-- The carry after `n` trips. -/
abbrev after (n : ℕ) : Carry Ideal := carryAfter bins big x y startCarry n

theorem zeroRow_read (l : Fin 128) : zeroRow (F := Ideal) (ix2 0 l) = 0 := Ideal.ofBits_zero_f32

/-- Sums over the first `56 n` rows and over the next 56. -/
theorem total_trip (n : ℕ) (f : ℕ → EReal) :
    total (56 * (n + 1)) f = total (56 * n) f + total 56 fun j => f (56 * n + j) :=
  total_add (56 * n) 56 f

theorem after_gap (l : Fin 128) (n : ℕ) :
    (after x y bins n).1 (ix2 0 l) = total (56 * n) fun r => logGap x y (128 * r + l.val) := by
  induction n with
  | zero => exact zeroRow_read l
  | succ n ih =>
    rw [total_trip, ← ih]
    exact addColumns_read _ _ l _ fun j => logDiff_read x y n j l

theorem after_gapSquare (l : Fin 128) (n : ℕ) :
    (after x y bins n).2.1 (ix2 0 l)
      = total (56 * n) fun r => logGap x y (128 * r + l.val) * logGap x y (128 * r + l.val) := by
  induction n with
  | zero => exact zeroRow_read l
  | succ n ih =>
    rw [total_trip, ← ih]
    refine addColumns_read _ _ l _ fun j => ?_
    rw [← logDiff_read x y n j l]
    rfl

include hbins in
theorem after_near (l : Fin 128) (n : ℕ) :
    (after x y bins n).2.2.1 (ix2 0 l)
      = total (56 * n) fun r => nearSquare cen (px x (128 * r + l.val)) := by
  induction n with
  | zero => exact zeroRow_read l
  | succ n ih =>
    rw [total_trip, ← ih]
    exact nearSumAfter_read x n cen bins hbins _ l 56 le_rfl

theorem after_count (l : Fin 128) (n : ℕ) :
    (after x y bins n).2.2.2.1 (ix2 0 l)
      = total (56 * n) fun r => oneIf (px x (128 * r + l.val)) := by
  induction n with
  | zero => exact zeroRow_read l
  | succ n ih =>
    rw [total_trip, ← ih]
    exact countAfter_read x n _ l 56 le_rfl

include hbins in
theorem after_table (q : ℕ) (hq : q < 16) (a : Fin 8) (l : Fin 128) (n : ℕ) :
    tables (after x y bins n) q (ix2 a l)
      = min far (least (56 * n) fun r =>
          dist (masked (px x (128 * r + l.val))) (cen (8 * q + a.val))) := by
  induction n with
  | zero =>
    change (tables startCarry q (ix2 a l) : Ideal .f32) = min far ⊤
    rw [startCarry, tables_mkCarry _ _ _ _ _ q hq, min_eq_left le_top]
    rfl
  | succ n ih =>
    rw [Nat.mul_succ, least_add, ← min_assoc, ← ih, ← hbins q hq a,
      ← tableAfter_read x n (bins q) _ a l 56 le_rfl]
    exact congrFun (tables_mkCarry _ _ _ _ _ q hq) _

end Sweep

end Cert.Loss

end
-- ==== Proof.Image.lean ====
/-
  What one image adds to the three running totals, at the real numbers.
-/
module

public import proofs.«01_k».proof.Proof.Reading

@[expose] public section

noncomputable section

namespace Cert.Loss

open Idealize.ShloMosaic Cert.KernelIdeal Cert.KernelIdeal.Gen

/-- Bin centre `k` from the blocks of lower and upper edges. -/
def cenOf (x0 x1 : Vec Ideal S1x128x1 .f32) (k : ℕ) : EReal :=
  half * (x0 (ix3 0 ⟨k % 128, Nat.mod_lt _ (by decide)⟩ 0)
    + x1 (ix3 0 ⟨k % 128, Nat.mod_lt _ (by decide)⟩ 0))

theorem centres_read (x0 x1 : Vec Ideal S1x128x1 .f32) (q : ℕ) (hq : q < 16) (a : Fin 8) :
    centres x0 x1 q (ix2 a 0) = cenOf x0 x1 (8 * q + a.val) := by
  have h : (8 * q + a.val) % 128 = 8 * q + a.val := Nat.mod_eq_of_lt (by omega)
  unfold cenOf half
  simp only [h]
  interval_cases q <;>
  · simp only [centres, pick, k0_pay2169, k0_pay2170, k0_pay2171, k0_pay2172, k0_pay2173,
      k0_pay2174, k0_pay2175, k0_pay2176, k0_pay2177, k0_pay2178, k0_pay2179, k0_pay2180,
      k0_pay2181, k0_pay2182, k0_pay2183, k0_pay2184, k0_pay2168]
    pointwise

/-- The sum over a row of 128 columns, each a sum over 392 rows, is the sum over the pixels. -/
theorem rowTotal_read (v : FVec Ideal S1x128 .f32) (f : ℕ → EReal)
    (h : ∀ l : Fin 128, v (ix2 0 l) = total 392 fun r => f (128 * r + l.val)) :
    rowTotal v = total 50176 f := by
  have e : rowTotal v = ∑ _ : Fin 1, ∑ l : Fin 128, v (ix2 0 l) := by
    unfold rowTotal
    pointwise
  rw [e, Fin.sum_univ_one, sum_total 128 _ (fun l => total 392 fun r => f (128 * r + l)) h]
  exact total_blocks 392 128 f

/-- The least distance from any of the 50176 pixels, `far` at most, to centre `c`. -/
def reach (t : ℕ → EReal) (c : EReal) : EReal :=
  min far (least 50176 fun p => dist (masked (t p)) c)

theorem tableShare_read (t : FVec Ideal S8x128 .f32) (f : ℕ → EReal)
    (h : ∀ a : Fin 8, (Finset.fold min ⊤ (fun l : Fin 128 => t (ix2 a l)) Finset.univ : EReal) = f a) :
    tableShare t = total 8 fun a => f a * f a := by
  have e : tableShare t = ∑ a : Fin 8,
      (Finset.fold min (Ideal.ofBits .f32 0x7F800000#32) (fun l : Fin 128 => t (ix2 a l)) Finset.univ
        * Finset.fold min (Ideal.ofBits .f32 0x7F800000#32) (fun l : Fin 128 => t (ix2 a l))
            Finset.univ : EReal) := by
    unfold tableShare rowLeast
    pointwise
  rw [e, ofBits_inf]
  exact sum_total 8 _ _ fun a => by rw [h a]

theorem tablesShare_read (t : ℕ → FVec Ideal S8x128 .f32) (f : ℕ → EReal) (n : ℕ)
    (h : ∀ q < n, tableShare (t q) = total 8 fun a => f (8 * q + a)) :
    tablesShare t n = total (8 * n) f := by
  induction n with
  | zero => exact Ideal.ofBits_zero_f32
  | succ n ih =>
    rw [Nat.mul_succ, total_add, ← ih fun q hq => h q (Nat.lt_succ_of_lt hq), ← h n n.lt_succ_self]
    rfl

/-- The third total in the operations of the real numbers. -/
theorem total2_parts (a : Carry Ideal) (e : EReal) :
    total2 (F := Ideal) a e
      = e + Ideal.div (tablesShare (tables a) 16) (Ideal.ofBits .f32 0x43000000#32)
        + Ideal.div (rowTotal a.2.2.1) (max (rowTotal a.2.2.2.1) 1) := by
  rw [← Ideal.ofBits_one_f32]
  rfl

section Image

variable (x0 x1 : Vec Ideal S1x128x1 .f32) (x y : Vec Ideal S1x392x128 .f32)

/-- A table's rows, each to its least entry. -/
theorem sweep_reach (q : ℕ) (hq : q < 16) (a : Fin 8) :
    (Finset.fold min ⊤ (fun l : Fin 128 => tables (sweep x0 x1 x y) q (ix2 a l)) Finset.univ : EReal)
      = reach (px x) (cenOf x0 x1 (8 * q + a.val)) := by
  refine (fold_least 128 _ (fun l => min far (least (56 * 7) fun r =>
      dist (masked (px x (128 * r + l))) (cenOf x0 x1 (8 * q + a.val)))) fun l =>
    after_table x y (cenOf x0 x1) (centres x0 x1) (centres_read x0 x1) q hq a l 7).trans ?_
  rw [least_min 128 (by decide)]
  exact congrArg (min far)
    (least_blocks 392 128 fun p => dist (masked (px x p)) (cenOf x0 x1 (8 * q + a.val)))

/-- The image's share of the first total: the sum of the differences of logarithms. -/
theorem total0_read (e : EReal) :
    total0 (F := Ideal) (sweep x0 x1 x y) e = e + total 50176 (logGap x y) :=
  congrArg (e + ·) (rowTotal_read _ _ fun l => after_gap x y (centres x0 x1) l 7)

/-- The image's share of the second total: the sum of their squares. -/
theorem total1_read (e : EReal) :
    total1 (F := Ideal) (sweep x0 x1 x y) e
      = e + total 50176 fun p => logGap x y p * logGap x y p :=
  congrArg (e + ·) (rowTotal_read _ (fun p => logGap x y p * logGap x y p)
    fun l => after_gapSquare x y (centres x0 x1) l 7)

/-- The image's share of the third total: the mean over the centres of the squared least distances,
    and the mean over the valid pixels of the squared nearest distances. -/
theorem total2_read (e : EReal) :
    total2 (F := Ideal) (sweep x0 x1 x y) e
      = e + Ideal.div (total 128 fun k =>
            reach (px x) (cenOf x0 x1 k) * reach (px x) (cenOf x0 x1 k))
          (Ideal.ofBits .f32 0x43000000#32)
        + Ideal.div (total 50176 fun p => nearSquare (cenOf x0 x1) (px x p))
            (max (total 50176 fun p => oneIf (px x p)) 1) := by
  have h1 := tablesShare_read (tables (sweep x0 x1 x y))
    (fun k => reach (px x) (cenOf x0 x1 k) * reach (px x) (cenOf x0 x1 k)) 16 fun q hq =>
      tableShare_read _ (fun a => reach (px x) (cenOf x0 x1 (8 * q + a)))
        fun a => sweep_reach x0 x1 x y q hq a
  have h2 := rowTotal_read (sweep x0 x1 x y).2.2.1 (fun p => nearSquare (cenOf x0 x1) (px x p))
    fun l => after_near x y (cenOf x0 x1) (centres x0 x1) (centres_read x0 x1) l 7
  have h3 := rowTotal_read (sweep x0 x1 x y).2.2.2.1 (fun p => oneIf (px x p))
    fun l => after_count x y (centres x0 x1) l 7
  rw [total2_parts, h1, h2, h3]

end Image

end Cert.Loss

end
-- ==== Proof.KernelValue.lean ====
/-
  The kernel's result at the real numbers as a function of its arguments: the loss from three sums
  over the four images.
-/
module

public import proofs.«01_k».proof.Proof.Image

@[expose] public section

noncomputable section

namespace Cert.Loss

open Idealize.ShloMosaic Idealize.ShloMosaic.TcCoe Cert.KernelIdeal Cert.KernelIdeal.Gen

/-- Bin edge `k` of image `n`. -/
def edge (b : FVec Ideal S4x129 .f32) (n k : ℕ) : EReal :=
  b (ix2 ⟨n % 4, Nat.mod_lt _ (by decide)⟩ ⟨k % 129, Nat.mod_lt _ (by decide)⟩)

/-- Pixel `p` of image `n`, counted row after row. -/
def pixel (t : FVec Ideal S4x1x224x224 .f32) (n p : ℕ) : EReal :=
  t (ix4 ⟨n % 4, Nat.mod_lt _ (by decide)⟩ 0 ⟨p / 224 % 224, Nat.mod_lt _ (by decide)⟩
    ⟨p % 224, Nat.mod_lt _ (by decide)⟩)

/-- Bin centre `k` of image `n`. -/
def centre (b : FVec Ideal S4x129 .f32) (n k : ℕ) : EReal := half * (edge b n k + edge b n (k + 1))

/-- The difference of the logarithms of the predicted and the true pixel `p` of image `n`. -/
def gap (pr tg : FVec Ideal S4x1x224x224 .f32) (n p : ℕ) : EReal :=
  Ideal.log (pixel pr n p) - Ideal.log (pixel tg n p)

/-- The chamfer distance of an image's valid pixels `t` and its centres `cen`, as the kernel works it
    out. -/
def chamfer (cen t : ℕ → EReal) : EReal :=
  Ideal.div (total 128 fun k => reach t (cen k) * reach t (cen k)) (Ideal.ofBits .f32 0x43000000#32)
    + Ideal.div (total 50176 fun p => nearSquare cen (t p)) (max (total 50176 fun p => oneIf (t p)) 1)

/-- The loss from the sum of the differences of logarithms, the sum of their squares and the sum of
    the chamfer distances. -/
def lossFrom (s1 s2 s3 : EReal) : EReal :=
  Ideal.sqrt (Ideal.div s2 (Ideal.ofBits .f32 0x48440000#32)
      - half * Ideal.div s1 (Ideal.ofBits .f32 0x48440000#32)
        * Ideal.div s1 (Ideal.ofBits .f32 0x48440000#32)) * Ideal.ofBits .f32 0x41200000#32
    + Ideal.ofBits .f32 0x3DCCCCCD#32 * Ideal.div s3 (Ideal.ofBits .f32 0x40800000#32)

variable (m : (ℓ : Loc nD τ sig) → Buf (Elt Ideal) ℓ) (c : Dev nD)

/-- The three arguments. -/
abbrev edgesArg : FVec Ideal S4x129 .f32 := m ((c : Thread nD τ).loc main_arg0)
@[inherit_doc edgesArg]
abbrev predArg : FVec Ideal S4x1x224x224 .f32 := m ((c : Thread nD τ).loc main_arg1)
@[inherit_doc edgesArg]
abbrev targetArg : FVec Ideal S4x1x224x224 .f32 := m ((c : Thread nD τ).loc main_arg2)

/-- A block of edges at point `n` is image `n`'s slice of the edges. -/
theorem lower_read (n : Fin 4) (k : Fin 128) :
    (iblk m c 0 (pt n) : Vec Ideal S1x128x1 .f32) (ix3 0 k 0) = edge (edgesArg m c) n.val k.val := by
  have hi : win0_0.index (pt n) 0 = n.val ∧ win0_0.index (pt n) 1 = 0 ∧ win0_0.index (pt n) 2 = 0 := by
    fin_cases n <;> decide
  have e : V m c main_v1 (ix3 n k 0) = edge (edgesArg m c) n.val k.val := by
    unfold edge
    simp only [Nat.mod_eq_of_lt n.isLt, Nat.mod_eq_of_lt (Nat.lt_succ_of_lt k.isLt)]
    entry_read
    pointwise
  refine Eq.trans ?_ e
  unfold iblk
  rw [View.read_apply]
  change V m c main_v1 _ = _
  congr 1
  funext a
  apply Fin.ext
  match a with
  | ⟨0, _⟩ => change win0_0.index (pt n) 0 * 1 + 1 * 0 = n.val; rw [hi.1]; omega
  | ⟨1, _⟩ => change win0_0.index (pt n) 1 * 128 + 1 * k.val = k.val; rw [hi.2.1]; omega
  | ⟨2, _⟩ => change win0_0.index (pt n) 2 * 1 + 1 * 0 = 0; rw [hi.2.2]

@[inherit_doc lower_read]
theorem upper_read (n : Fin 4) (k : Fin 128) :
    (iblk m c 1 (pt n) : Vec Ideal S1x128x1 .f32) (ix3 0 k 0)
      = edge (edgesArg m c) n.val (k.val + 1) := by
  have hi : win0_1.index (pt n) 0 = n.val ∧ win0_1.index (pt n) 1 = 0 ∧ win0_1.index (pt n) 2 = 0 := by
    fin_cases n <;> decide
  have e : V m c main_v3 (ix3 n k 0) = edge (edgesArg m c) n.val (k.val + 1) := by
    unfold edge
    simp only [Nat.mod_eq_of_lt n.isLt, Nat.mod_eq_of_lt (Nat.succ_lt_succ k.isLt)]
    entry_read
    pointwise
    simp only [Nat.add_comm, Nat.succ_eq_add_one]
  refine Eq.trans ?_ e
  unfold iblk
  rw [View.read_apply]
  change V m c main_v3 _ = _
  congr 1
  funext a
  apply Fin.ext
  match a with
  | ⟨0, _⟩ => change win0_1.index (pt n) 0 * 1 + 1 * 0 = n.val; rw [hi.1]; omega
  | ⟨1, _⟩ => change win0_1.index (pt n) 1 * 128 + 1 * k.val = k.val; rw [hi.2.1]; omega
  | ⟨2, _⟩ => change win0_1.index (pt n) 2 * 1 + 1 * 0 = 0; rw [hi.2.2]

/-- Pixel 128 r + l of an image lies in its row (128 r + l) / 224. -/
theorem pixel_place (n : Fin 4) (r : Fin 392) (l : Fin 128) :
    (n.val * 50176 + r.val * 128 + l.val) / 224 % 224 = (128 * r.val + l.val) / 224 % 224
      ∧ (n.val * 50176 + r.val * 128 + l.val) % 224 = (128 * r.val + l.val) % 224 := by
  omega

/-- A block of pixels at point `n` is image `n`, cut into rows of 128. -/
theorem target_read (n : Fin 4) (r : Fin 392) (l : Fin 128) :
    (iblk m c 2 (pt n) : Vec Ideal S1x392x128 .f32) (ix3 0 r l)
      = pixel (targetArg m c) n.val (128 * r.val + l.val) := by
  have hi : win0_2.index (pt n) 0 = n.val ∧ win0_2.index (pt n) 1 = 0 ∧ win0_2.index (pt n) 2 = 0 := by
    fin_cases n <;> decide
  have e : V m c main_v4 (ix3 n r l) = pixel (targetArg m c) n.val (128 * r.val + l.val) := by
    unfold pixel
    simp only [Nat.mod_eq_of_lt n.isLt, ← (pixel_place n r l).1, ← (pixel_place n r l).2]
    entry_read
    pointwise
  refine Eq.trans ?_ e
  unfold iblk
  rw [View.read_apply]
  change V m c main_v4 _ = _
  congr 1
  funext a
  apply Fin.ext
  match a with
  | ⟨0, _⟩ => change win0_2.index (pt n) 0 * 1 + 1 * 0 = n.val; rw [hi.1]; omega
  | ⟨1, _⟩ => change win0_2.index (pt n) 1 * 392 + 1 * r.val = r.val; rw [hi.2.1]; omega
  | ⟨2, _⟩ => change win0_2.index (pt n) 2 * 128 + 1 * l.val = l.val; rw [hi.2.2]; omega

@[inherit_doc target_read]
theorem pred_read (n : Fin 4) (r : Fin 392) (l : Fin 128) :
    (iblk m c 3 (pt n) : Vec Ideal S1x392x128 .f32) (ix3 0 r l)
      = pixel (predArg m c) n.val (128 * r.val + l.val) := by
  have hi : win0_3.index (pt n) 0 = n.val ∧ win0_3.index (pt n) 1 = 0 ∧ win0_3.index (pt n) 2 = 0 := by
    fin_cases n <;> decide
  have e : V m c main_v5 (ix3 n r l) = pixel (predArg m c) n.val (128 * r.val + l.val) := by
    unfold pixel
    simp only [Nat.mod_eq_of_lt n.isLt, ← (pixel_place n r l).1, ← (pixel_place n r l).2]
    entry_read
    pointwise
  refine Eq.trans ?_ e
  unfold iblk
  rw [View.read_apply]
  change V m c main_v5 _ = _
  congr 1
  funext a
  apply Fin.ext
  match a with
  | ⟨0, _⟩ => change win0_3.index (pt n) 0 * 1 + 1 * 0 = n.val; rw [hi.1]; omega
  | ⟨1, _⟩ => change win0_3.index (pt n) 1 * 392 + 1 * r.val = r.val; rw [hi.2.1]; omega
  | ⟨2, _⟩ => change win0_3.index (pt n) 2 * 128 + 1 * l.val = l.val; rw [hi.2.2]; omega

theorem px_target (n : Fin 4) (p : ℕ) (hp : p < 50176) :
    px (iblk m c 2 (pt n)) p = pixel (targetArg m c) n.val p := by
  have h := target_read m c n ⟨p / 128 % 392, Nat.mod_lt _ (by decide)⟩
    ⟨p % 128, Nat.mod_lt _ (by decide)⟩
  rwa [show 128 * (p / 128 % 392) + p % 128 = p by omega] at h

theorem px_pred (n : Fin 4) (p : ℕ) (hp : p < 50176) :
    px (iblk m c 3 (pt n)) p = pixel (predArg m c) n.val p := by
  have h := pred_read m c n ⟨p / 128 % 392, Nat.mod_lt _ (by decide)⟩
    ⟨p % 128, Nat.mod_lt _ (by decide)⟩
  rwa [show 128 * (p / 128 % 392) + p % 128 = p by omega] at h

theorem cenOf_read (n : Fin 4) (k : ℕ) (hk : k < 128) :
    cenOf (iblk m c 0 (pt n)) (iblk m c 1 (pt n)) k = centre (edgesArg m c) n.val k := by
  have h0 := lower_read m c n ⟨k % 128, Nat.mod_lt _ (by decide)⟩
  have h1 := upper_read m c n ⟨k % 128, Nat.mod_lt _ (by decide)⟩
  unfold cenOf centre
  rw [h0, h1]
  simp only [Nat.mod_eq_of_lt hk]

/-- The chamfer distance looks only at the 128 centres and the 50176 pixels. -/
theorem chamfer_congr {cen cen' t t' : ℕ → EReal} (hc : ∀ k < 128, cen k = cen' k)
    (ht : ∀ p < 50176, t p = t' p) : chamfer cen t = chamfer cen' t' := by
  have hr : ∀ k < 128, reach t (cen k) = reach t' (cen' k) := fun k hk => by
    unfold reach
    rw [hc k hk, least_congr fun p hp => by rw [ht p hp]]
  have hn : ∀ s, nearSquare cen s = nearSquare cen' s := fun s => by
    unfold nearSquare
    rw [least_congr fun k hk => by rw [hc k hk]]
  have h1 : (total 128 fun k => reach t (cen k) * reach t (cen k))
      = total 128 fun k => reach t' (cen' k) * reach t' (cen' k) :=
    total_congr fun k hk => by rw [hr k hk]
  have h2 : (total 50176 fun p => nearSquare cen (t p))
      = total 50176 fun p => nearSquare cen' (t' p) :=
    total_congr fun p hp => by rw [hn, ht p hp]
  have h3 : (total 50176 fun p => oneIf (t p)) = total 50176 fun p => oneIf (t' p) :=
    total_congr fun p hp => by rw [ht p hp]
  unfold chamfer
  rw [h1, h2, h3]

/-- What point `n` adds to the three totals. -/
theorem addPoint_read (n : Fin 4) (e : Vec Ideal S3 .f32) :
    addPoint m c n e
      = threeOf (e (ix1 0) + total 50176 (gap (predArg m c) (targetArg m c) n.val))
          (e (ix1 1) + total 50176 fun p => gap (predArg m c) (targetArg m c) n.val p
            * gap (predArg m c) (targetArg m c) n.val p)
          (e (ix1 2) + chamfer (centre (edgesArg m c) n.val) (pixel (targetArg m c) n.val)) := by
  have hg : ∀ p < 50176, logGap (iblk m c 2 (pt n)) (iblk m c 3 (pt n)) p
      = gap (predArg m c) (targetArg m c) n.val p := fun p hp => by
    unfold logGap gap
    rw [px_target m c n p hp, px_pred m c n p hp]
  have hg2 : (total 50176 fun p => logGap (iblk m c 2 (pt n)) (iblk m c 3 (pt n)) p
      * logGap (iblk m c 2 (pt n)) (iblk m c 3 (pt n)) p)
      = total 50176 fun p => gap (predArg m c) (targetArg m c) n.val p
            * gap (predArg m c) (targetArg m c) n.val p :=
    total_congr fun p hp => by rw [hg p hp]
  have hc := chamfer_congr (cenOf_read m c n) (px_target m c n)
  unfold addPoint addImage
  rw [total0_read, total1_read, total2_read, total_congr hg, hg2, ← hc, chamfer, add_assoc]

/-- A sum of four, one after another from zero. -/
theorem total_four (f : ℕ → EReal) : total 4 f = 0 + f 0 + f 1 + f 2 + f 3 := by
  rw [total_succ, total_succ, total_succ, total_succ, total_zero]

/-- The loss from the kernel's last totals. -/
theorem lossOf_read (e : Vec Ideal S3 .f32) :
    lossOf e (ix2 0 0) = lossFrom (e (ix1 0)) (e (ix1 1)) (e (ix1 2)) := rfl

/-- The kernel's result. -/
theorem kernel_value :
    (Value.G4 m c : FVec Ideal S1x1 .f32) (ix2 0 0)
      = lossFrom (total 4 fun n => total 50176 (gap (predArg m c) (targetArg m c) n))
          (total 4 fun n => total 50176 fun p => gap (predArg m c) (targetArg m c) n p
            * gap (predArg m c) (targetArg m c) n p)
          (total 4 fun n => chamfer (centre (edgesArg m c) n) (pixel (targetArg m c) n)) := by
  have h0 : (fun _ => Scalar.ofBits (F := Ideal) .f32 0x00000000#32 : Vec Ideal S3 .f32) = fun _ => (0 : EReal) :=
    funext fun _ => Ideal.ofBits_zero_f32
  rw [result_eq, h0, lossOf_read, addPoint_read, addPoint_read, addPoint_read, addPoint_read,
    total_four, total_four, total_four]
  rfl

end Cert.Loss

end
-- ==== Proof.RefStages.lean ====
/-
  The reference's result at the real numbers, stage by stage.
-/
module

public import proofs.«01_k».proof.Proof.KernelValue
public import proofs.«01_k».proof.Proof.Gen.ReferenceIdeal.Run
public import Idealize.ShloMosaic.Lib.Tactic.CleanTypes

@[expose] public section

noncomputable section

namespace Cert.Loss.Reference

open Idealize.ShloMosaic Idealize.ShloMosaic.TcCoe Cert.ReferenceIdeal Cert.ReferenceIdeal.Gen

/-- The differences of logarithms. -/
def gapVec (pr tg : FVec Ideal S4x1x224x224 .f32) : FVec Ideal S4x1x224x224 .f32 :=
  subf (Host.log pr) (Host.log tg)

/-- The mean of all 200704 pixels. -/
def meanAll (x : FVec Ideal S4x1x224x224 .f32) : FVec Ideal S_ .f32 :=
  Host.divf (Host.reduceAdd x (constant S_ .f32 0x00000000#32) reducesTo_S4x1x224x224_S_d0_1_2_3 h_S_)
    (constant S_ .f32 0x48440000#32)

/-- The bin centres. -/
def cenVec (e : FVec Ideal S4x129 .f32) : FVec Ideal S4x128 .f32 :=
  mulf (broadcastInDim S4x128 ![] bcast_S_S4x128 (constant S_ .f32 0x3F000000#32))
    (addf (extractStridedSlice S4x128 ![0, 1] e slices_S4x129_S4x128_0_1)
      (extractStridedSlice S4x128 ![0, 0] e slices_S4x129_S4x128_0_0))

/-- The pixels of each image in one row. -/
def pixVec (tg : FVec Ideal S4x1x224x224 .f32) : FVec Ideal S4x50176 .f32 :=
  shapeCast _ tg shapeCasts_S4x1x224x224_S4x50176

/-- Which of them are valid. -/
def validVec (tg : FVec Ideal S4x1x224x224 .f32) : IVec S4x50176 1 :=
  cmpf .oge (pixVec tg) (broadcastInDim S4x50176 ![] bcast_S_S4x50176 (constant S_ .f32 0x3A83126F#32))

/-- The centre less the pixel, for every pair of an image. -/
def diffVec (e : FVec Ideal S4x129 .f32) (tg : FVec Ideal S4x1x224x224 .f32) :
    FVec Ideal S4x128x50176 .f32 :=
  subf (broadcastInDim S4x128x50176 ![0, 1, 2] bcast_S4x128x1_S4x128x50176_0_1_2
      (broadcastInDim S4x128x1 ![0, 1] bcast_S4x128_S4x128x1_0_1 (cenVec e)))
    (broadcastInDim S4x128x50176 ![0, 1, 2] bcast_S4x1x50176_S4x128x50176_0_1_2
      (broadcastInDim S4x1x50176 ![0, 2] bcast_S4x50176_S4x1x50176_0_2 (pixVec tg)))

/-- The squared distances. -/
def sqVec (e : FVec Ideal S4x129 .f32) (tg : FVec Ideal S4x1x224x224 .f32) :
    FVec Ideal S4x128x50176 .f32 := mulf (diffVec e tg) (diffVec e tg)

/-- The squared distances with 1e10 for a pixel that is not valid. -/
def maskedSqVec (e : FVec Ideal S4x129 .f32) (tg : FVec Ideal S4x1x224x224 .f32) :
    FVec Ideal S4x128x50176 .f32 :=
  select (broadcastInDim S4x128x50176 ![0, 1, 2] bcast_S4x1x50176_S4x128x50176_0_1_2
      (broadcastInDim S4x1x50176 ![0, 2] bcast_S4x50176_S4x1x50176_0_2 (validVec tg)))
    (sqVec e tg)
    (broadcastInDim S4x128x50176 ![] bcast_S_S4x128x50176 (constant S_ .f32 0x501502F9#32))

/-- Each centre's least squared distance to a valid pixel. -/
def centreLeastVec (e : FVec Ideal S4x129 .f32) (tg : FVec Ideal S4x1x224x224 .f32) :
    FVec Ideal S4x128 .f32 :=
  Host.reduce FloatOps.minimumf (maskedSqVec e tg) (constant S_ .f32 0x7F800000#32)
    reducesTo_S4x128x50176_S4x128_d2 h_S_

/-- Each pixel's least squared distance to a centre. -/
def pixelLeastVec (e : FVec Ideal S4x129 .f32) (tg : FVec Ideal S4x1x224x224 .f32) :
    FVec Ideal S4x50176 .f32 :=
  Host.reduce FloatOps.minimumf (sqVec e tg) (constant S_ .f32 0x7F800000#32)
    reducesTo_S4x128x50176_S4x50176_d1 h_S_

/-- The number of valid pixels of each image. -/
def countVec (tg : FVec Ideal S4x1x224x224 .f32) : IVec S4 32 :=
  Host.reduce IntOp.addi (extui 32 (validVec tg) natLt_1_32) (constantI S_ 32 0#32)
    reducesTo_S4x50176_S4_d1 h_S_

/-- The same, at least one, as a number. -/
def lengthVec (tg : FVec Ideal S4x1x224x224 .f32) : FVec Ideal S4 .f32 :=
  sitofp .f32 (maxsi (countVec tg) (broadcastInDim S4 ![] bcast_S_S4 (constantI S_ 32 1#32)))

/-- The mean over the centres. -/
def centrePart (e : FVec Ideal S4x129 .f32) (tg : FVec Ideal S4x1x224x224 .f32) : FVec Ideal S4 .f32 :=
  Host.divf (Host.reduceAdd (centreLeastVec e tg) (constant S_ .f32 0x00000000#32)
      reducesTo_S4x128_S4_d1 h_S_)
    (broadcastInDim S4 ![] bcast_S_S4 (constant S_ .f32 0x43000000#32))

/-- The mean over the valid pixels. -/
def pixelPart (e : FVec Ideal S4x129 .f32) (tg : FVec Ideal S4x1x224x224 .f32) : FVec Ideal S4 .f32 :=
  Host.divf (Host.reduceAdd
      (select (validVec tg) (pixelLeastVec e tg)
        (broadcastInDim S4x50176 ![] bcast_S_S4x50176 (id (constant S_ .f32 0x00000000#32))))
      (constant S_ .f32 0x00000000#32) reducesTo_S4x50176_S4_d1 h_S_)
    (lengthVec tg)

/-- The mean of the four chamfer distances. -/
def chamferVec (e : FVec Ideal S4x129 .f32) (tg : FVec Ideal S4x1x224x224 .f32) : FVec Ideal S_ .f32 :=
  Host.divf (Host.reduceAdd (addf (centrePart e tg) (pixelPart e tg)) (constant S_ .f32 0x00000000#32)
      reducesTo_S4_S_d0 h_S_)
    (constant S_ .f32 0x40800000#32)

/-- The depth term from the two means. -/
def depthVec (sq me : FVec Ideal S_ .f32) : FVec Ideal S_ .f32 :=
  mulf (Host.sqrt (subf sq (mulf (constant S_ .f32 0x3F000000#32) (mulf me me))))
    (constant S_ .f32 0x41200000#32)

/-- The loss. -/
def lossVec (depth cham : FVec Ideal S_ .f32) : FVec Ideal S1x1 .f32 :=
  shapeCast _ (addf depth (mulf (constant S_ .f32 0x3DCCCCCD#32) cham)) shapeCasts_S_S1x1

variable (m : (ℓ : Loc nD τ sig) → Buf (Elt Ideal) ℓ) (c : Dev nD)

/-- The reference's result in these stages. -/
theorem result_stages :
    Value.res_main_v47 m c
      = (lossVec (depthVec
          (meanAll (mulf (gapVec (m ((c : Thread nD τ).loc main_arg1)) (m ((c : Thread nD τ).loc main_arg2)))
            (gapVec (m ((c : Thread nD τ).loc main_arg1)) (m ((c : Thread nD τ).loc main_arg2)))))
          (meanAll (gapVec (m ((c : Thread nD τ).loc main_arg1)) (m ((c : Thread nD τ).loc main_arg2)))))
        (chamferVec (m ((c : Thread nD τ).loc main_arg0)) (m ((c : Thread nD τ).loc main_arg2))) :
        FVec Ideal S1x1 .f32) := rfl

end Cert.Loss.Reference

end
-- ==== Proof.RefValue.lean ====
/-
  The reference's result at the real numbers as a function of its arguments.
-/
module

public import proofs.«01_k».proof.Proof.RefStages
public import Idealize.ShloMosaic.Lib.IndicatorCount

@[expose] public section

noncomputable section

namespace Cert.Loss.Reference

open Idealize.ShloMosaic Idealize.ShloMosaic.TcCoe Cert.ReferenceIdeal Cert.ReferenceIdeal.Gen

/-- The square of the distance of a centre and a pixel. -/
def square (c t : EReal) : EReal := (c - t) * (c - t)

/-- The chamfer distance of an image's valid pixels `t` and its centres `cen`, as the reference defines
    it. -/
def chamferOf (cen t : ℕ → EReal) : EReal :=
  Ideal.div
      (total 128 fun k => least 50176 fun p => if thr ≤ t p then square (cen k) (t p) else far)
      (Ideal.ofBits .f32 0x43000000#32)
    + Ideal.div (total 50176 fun p => if thr ≤ t p then least 128 fun k => square (cen k) (t p) else 0)
        (max (total 50176 fun p => oneIf (t p)) 1)

variable (e : FVec Ideal S4x129 .f32) (pr tg : FVec Ideal S4x1x224x224 .f32)

/-- The mean of all pixels. -/
theorem meanAll_read (x : FVec Ideal S4x1x224x224 .f32) (f : ℕ → ℕ → EReal)
    (h : ∀ (n : Fin 4) (i j : Fin 224), x (ix4 n 0 i j) = f n.val (224 * i.val + j.val)) :
    meanAll x ix0 = Ideal.div (total 4 fun n => total 50176 (f n)) (Ideal.ofBits .f32 0x48440000#32) := by
  have hs : ∑ i : S4x1x224x224.Idx, x i = total 4 fun n => total 50176 (f n) := by
    rw [sum_idx4]
    refine sum_total 4 _ _ fun n => ?_
    rw [Fin.sum_univ_one]
    refine (sum_total 224 _ (fun i => total 224 fun j => f n.val (224 * i + j)) fun i => ?_).trans
      (total_blocks' 224 224 (f n.val))
    exact sum_total 224 _ _ fun j => h n i j
  have hm : meanAll x ix0 = Ideal.div
      (Ideal.hostReduceAdd reducesTo_S4x1x224x224_S_d0_1_2_3 x 0 ix0)
      (Ideal.ofBits .f32 0x48440000#32) := by
    unfold meanAll
    pointwise
  rw [hm, Ideal.hostReduceAdd_total _ (fun b => b.elim0), zero_add, hs]

theorem gapVec_read (n : Fin 4) (i j : Fin 224) :
    gapVec pr tg (ix4 n 0 i j) = gap pr tg n.val (224 * i.val + j.val) := by
  have hp : ∀ t : FVec Ideal S4x1x224x224 .f32,
      pixel t n.val (224 * i.val + j.val) = t (ix4 n 0 i j) := fun t => by
    have h1 : (224 * i.val + j.val) / 224 % 224 = i.val := by omega
    have h2 : (224 * i.val + j.val) % 224 = j.val := by omega
    unfold pixel
    simp only [h1, h2, Nat.mod_eq_of_lt n.isLt]
  unfold gap
  rw [hp, hp]
  unfold gapVec
  pointwise

theorem cenVec_read (n : Fin 4) (k : Fin 128) : cenVec e (ix2 n k) = centre e n.val k.val := by
  have h0 : edge e n.val k.val = e (ix2 n ⟨k.val, by omega⟩) := by
    unfold edge
    simp only [Nat.mod_eq_of_lt n.isLt, Nat.mod_eq_of_lt (Nat.lt_succ_of_lt k.isLt)]
  have h1 : edge e n.val (k.val + 1) = e (ix2 n ⟨1 + k.val, by omega⟩) := by
    unfold edge
    simp only [Nat.mod_eq_of_lt n.isLt, Nat.mod_eq_of_lt (Nat.succ_lt_succ k.isLt), Nat.add_comm 1]
  unfold centre half
  rw [add_comm, h0, h1]
  unfold cenVec
  pointwise

theorem pixVec_read (n : Fin 4) (p : Fin 50176) : pixVec tg (ix2 n p) = pixel tg n.val p.val := by
  have h : p.val / 224 % 224 = p.val / 224 := Nat.mod_eq_of_lt (by omega)
  unfold pixel
  simp only [h, Nat.mod_eq_of_lt n.isLt]
  unfold pixVec
  pointwise

theorem sqVec_read (n : Fin 4) (k : Fin 128) (p : Fin 50176) :
    sqVec e tg (ix3 n k p) = square (centre e n.val k.val) (pixel tg n.val p.val) := by
  rw [← cenVec_read, ← pixVec_read]
  unfold sqVec diffVec square
  pointwise

theorem maskedSqVec_read (n : Fin 4) (k : Fin 128) (p : Fin 50176) :
    maskedSqVec e tg (ix3 n k p)
      = if thr ≤ pixel tg n.val p.val then square (centre e n.val k.val) (pixel tg n.val p.val)
        else far := by
  rw [← sqVec_read, ← pixVec_read]
  unfold maskedSqVec validVec thr far
  pointwise

theorem centreLeastVec_read (n : Fin 4) (k : Fin 128) :
    centreLeastVec e tg (ix2 n k)
      = least 50176 fun p => if thr ≤ pixel tg n.val p
          then square (centre e n.val k.val) (pixel tg n.val p) else far := by
  have h : centreLeastVec e tg (ix2 n k)
      = Finset.fold min (Ideal.ofBits .f32 0x7F800000#32)
          (fun p : Fin 50176 => maskedSqVec e tg (ix3 n k p)) Finset.univ := by
    unfold centreLeastVec
    pointwise
  rw [h, ofBits_inf]
  exact fold_least 50176 _ _ fun p => maskedSqVec_read e tg n k p

theorem pixelLeastVec_read (n : Fin 4) (p : Fin 50176) :
    pixelLeastVec e tg (ix2 n p)
      = least 128 fun k => square (centre e n.val k) (pixel tg n.val p.val) := by
  have h : pixelLeastVec e tg (ix2 n p)
      = Finset.fold min (Ideal.ofBits .f32 0x7F800000#32)
          (fun k : Fin 128 => sqVec e tg (ix3 n k p)) Finset.univ := by
    unfold pixelLeastVec
    pointwise
  rw [h, ofBits_inf]
  exact fold_least 128 _ _ fun k => sqVec_read e tg n k p

/-- A small count, at least one, read as a signed word. -/
theorem toInt_maxsi (N : ℕ) (hN : N ≤ 50176) :
    (IntOp.maxsi (BitVec.ofNat 32 N) 1#32).toInt = (max N 1 : ℕ) := by
  have ht : (BitVec.ofNat 32 N).toInt = N := by
    rw [BitVec.toInt_eq_toNat_of_lt (by rw [BitVec.toNat_ofNat]; omega), BitVec.toNat_ofNat]
    omega
  have h1 : (1#32 : BitVec 32).toInt = 1 := by decide
  unfold IntOp.maxsi
  split <;> rename_i h <;> simp only [BitVec.slt, ht, h1, decide_eq_true_eq] at h ⊢ <;> omega

theorem lengthVec_read (n : Fin 4) :
    lengthVec tg (ix1 n) = max (total 50176 fun p => oneIf (pixel tg n.val p)) 1 := by
  have hc : countVec tg (ix1 n) = Finset.fold IntOp.addi (0#32)
      (fun p : Fin 50176 => BitVec.setWidth 32
        (BitVec.ofBool (decide (Ideal.ofBits .f32 0x3A83126F#32 ≤ pixVec tg (ix2 n p)))))
      Finset.univ := by
    unfold countVec validVec
    pointwise
  have hl : lengthVec tg (ix1 n)
      = (((IntOp.maxsi (countVec tg (ix1 n)) 1#32).toInt : ℝ) : EReal) := by
    unfold lengthVec
    pointwise
    rfl
  have hs : (total 50176 fun p => oneIf (pixel tg n.val p))
      = ((Finset.univ.filter fun p : Fin 50176 => thr ≤ pixVec tg (ix2 n p)).card : EReal) := by
    rw [← sum_total 50176 (fun p => if thr ≤ pixVec tg (ix2 n p) then (1 : EReal) else 0) _
      fun p => by rw [pixVec_read]; rfl, ← Finset.sum_filter, Finset.sum_const, nsmul_one]
  rw [hl, hc, IndicatorCount.fold_addi_setWidth_eq_card, hs]
  have hb : ∀ p : Fin 50176,
      (BitVec.ofBool (decide (Ideal.ofBits .f32 0x3A83126F#32 ≤ pixVec tg (ix2 n p))) = 1#1)
        ↔ thr ≤ pixVec tg (ix2 n p) := fun p => by
    by_cases h : thr ≤ pixVec tg (ix2 n p)
    · exact iff_of_true (by rw [← thr, decide_eq_true h]; rfl) h
    · exact iff_of_false (by rw [← thr, decide_eq_false h]; decide) h
  simp only [hb]
  have hN := Finset.card_le_univ (Finset.univ.filter fun p : Fin 50176 => thr ≤ pixVec tg (ix2 n p))
  rw [Fintype.card_fin] at hN
  rw [toInt_maxsi _ hN]
  push_cast
  rfl

theorem centrePart_read (n : Fin 4) :
    centrePart e tg (ix1 n) = Ideal.div
      (total 128 fun k => least 50176 fun p => if thr ≤ pixel tg n.val p
        then square (centre e n.val k) (pixel tg n.val p) else far)
      (Ideal.ofBits .f32 0x43000000#32) := by
  have h : centrePart e tg (ix1 n) = Ideal.div (∑ k : Fin 128, centreLeastVec e tg (ix2 n k))
      (Ideal.ofBits .f32 0x43000000#32) := by
    unfold centrePart
    pointwise
  rw [h, sum_total 128 _ (fun k => least 50176 fun p => if thr ≤ pixel tg n.val p
    then square (centre e n.val k) (pixel tg n.val p) else far) fun k => centreLeastVec_read e tg n k]

theorem pixelPart_read (n : Fin 4) :
    pixelPart e tg (ix1 n) = Ideal.div
      (total 50176 fun p => if thr ≤ pixel tg n.val p
        then least 128 fun k => square (centre e n.val k) (pixel tg n.val p) else 0)
      (max (total 50176 fun p => oneIf (pixel tg n.val p)) 1) := by
  have h : pixelPart e tg (ix1 n) = Ideal.div
      (∑ p : Fin 50176, if thr ≤ pixVec tg (ix2 n p) then pixelLeastVec e tg (ix2 n p) else 0)
      (lengthVec tg (ix1 n)) := by
    unfold pixelPart validVec thr id
    pointwise [Ideal.ofBits_zero_f32]
  rw [h, lengthVec_read, sum_total 50176 _ (fun p => if thr ≤ pixel tg n.val p
        then least 128 fun k => square (centre e n.val k) (pixel tg n.val p) else 0)
    fun p => by rw [pixVec_read, pixelLeastVec_read]]

theorem chamferVec_read :
    chamferVec e tg ix0 = Ideal.div (total 4 fun n => chamferOf (centre e n) (pixel tg n))
      (Ideal.ofBits .f32 0x40800000#32) := by
  have h : chamferVec e tg ix0 = Ideal.div
      (∑ n : Fin 4, (centrePart e tg (ix1 n) + pixelPart e tg (ix1 n)))
      (Ideal.ofBits .f32 0x40800000#32) := by
    unfold chamferVec
    pointwise
  rw [h, sum_total 4 _ (fun n => chamferOf (centre e n) (pixel tg n))
    fun n => by rw [centrePart_read, pixelPart_read]; rfl]

/-- The reference's result. -/
theorem loss_read (sq me : FVec Ideal S_ .f32) (s1 s2 s3 : EReal)
    (h2 : sq ix0 = Ideal.div s2 (Ideal.ofBits .f32 0x48440000#32))
    (h1 : me ix0 = Ideal.div s1 (Ideal.ofBits .f32 0x48440000#32))
    (h3 : chamferVec e tg ix0 = Ideal.div s3 (Ideal.ofBits .f32 0x40800000#32)) :
    lossVec (depthVec sq me) (chamferVec e tg) (ix2 0 0) = lossFrom s1 s2 s3 := by
  have hl : lossVec (depthVec sq me) (chamferVec e tg) (ix2 0 0)
      = Ideal.sqrt (sq ix0 - half * (me ix0 * me ix0)) * Ideal.ofBits .f32 0x41200000#32
        + Ideal.ofBits .f32 0x3DCCCCCD#32 * chamferVec e tg ix0 := by
    unfold lossVec depthVec half
    pointwise
  rw [hl, h1, h2, h3, ← mul_assoc]
  rfl

variable (m : (ℓ : Loc nD τ sig) → Buf (Elt Ideal) ℓ) (c : Dev nD)

/-- The same of the program's result. -/
theorem reference_value (he : e = m ((c : Thread nD τ).loc main_arg0))
    (hp : pr = m ((c : Thread nD τ).loc main_arg1)) (ht : tg = m ((c : Thread nD τ).loc main_arg2)) :
    (Value.res_main_v47 m c : FVec Ideal S1x1 .f32) (ix2 0 0)
      = lossFrom (total 4 fun n => total 50176 (gap pr tg n))
          (total 4 fun n => total 50176 fun p => gap pr tg n p * gap pr tg n p)
          (total 4 fun n => chamferOf (centre e n) (pixel tg n)) := by
  rw [result_stages, ← he, ← hp, ← ht]
  exact loss_read e tg _ _ _ _ _
    (meanAll_read _ (fun n p => gap pr tg n p * gap pr tg n p) fun n i j => by
      rw [← gapVec_read]; rfl)
    (meanAll_read _ (gap pr tg) fun n i j => gapVec_read pr tg n i j) (chamferVec_read e tg)

end Cert.Loss.Reference

end
-- ==== Proof.Chamfer.lean ====
/-
  The two ways of working out a chamfer distance agree: taking the least distance and squaring it, with
  1e10 in an invalid pixel's place, and taking the least of the squared distances, with 1e10 in place of
  an invalid pixel's squared distance.

  The second half, about the centres, needs every centre within 1e4 of zero and a valid pixel of at most
  1e4. The first half, about the pixels, needs nothing.
-/
module

public import proofs.«01_k».proof.Proof.RefValue

@[expose] public section

noncomputable section

namespace Cert.Loss

open Idealize.ShloMosaic Reference

theorem dist_nonneg (x y : EReal) : 0 ≤ dist x y := by
  unfold dist
  rcases le_total 0 (x - y) with h | h
  · exact h.trans (le_max_left _ _)
  · exact (EReal.neg_nonneg.2 h).trans (le_max_right _ _)

/-- A squared difference does not depend on the order, infinities included. -/
theorem square_comm (x y : EReal) : (x - y) * (x - y) = (y - x) * (y - x) := by
  induction x <;> induction y <;> try rfl
  norm_cast
  ring

theorem dist_mul_dist (t c : EReal) : dist t c * dist t c = square c t := by
  unfold square
  rw [← square_comm t c]
  unfold dist
  rcases max_choice (t - c) (-(t - c)) with h | h
  · rw [h]
  · rw [h, neg_mul_neg]

theorem mul_self_mono {x y : EReal} (h0 : 0 ≤ x) (h : x ≤ y) : x * x ≤ y * y :=
  mul_le_mul h h h0 (h0.trans h)

/-- The least value of a nonempty range is one of the values. -/
theorem least_attained (n : ℕ) (hn : 0 < n) (f : ℕ → EReal) : ∃ p < n, least n f = f p := by
  obtain ⟨p, hp, h⟩ := Finset.exists_mem_eq_inf (Finset.range n) ⟨0, Finset.mem_range.2 hn⟩ f
  exact ⟨p, Finset.mem_range.1 hp, h⟩

/-- The square of the least distance is the least of the squares. -/
theorem least_square (n : ℕ) (hn : 0 < n) (f : ℕ → EReal) (h : ∀ p, 0 ≤ f p) :
    least n f * least n f = least n fun p => f p * f p := by
  obtain ⟨p, hp, e⟩ := least_attained n hn f
  apply le_antisymm
  · exact le_least fun q hq => mul_self_mono (e ▸ h p) (least_le f hq)
  · rw [e]
    exact least_le (fun p => f p * f p) hp

/-- A pixel's squared distance to the nearest centre. -/
theorem nearSquare_eq (cen : ℕ → EReal) (s : EReal) :
    nearSquare cen s = if thr ≤ s then least 128 fun k => square (cen k) s else 0 := by
  unfold nearSquare
  split
  · rename_i h
    rw [least_square 128 (by decide) _ fun k => dist_nonneg _ _]
    refine least_congr fun k _ => ?_
    rw [dist_mul_dist, masked, if_pos h]
  · rfl

/-- The number 2e4, which bounds the distance from a centre to some valid pixel. -/
def reachBound : EReal := ((20000 : ℝ) : EReal)

theorem reachBound_square : reachBound * reachBound ≤ far := by
  rw [far_eq, reachBound, ← EReal.coe_mul]
  exact EReal.coe_le_coe_iff.2 (by norm_num)

theorem reachBound_nonneg : 0 ≤ reachBound := EReal.coe_nonneg.2 (by norm_num)

theorem reachBound_le_far : reachBound ≤ far := by
  rw [far_eq]
  exact EReal.coe_le_coe_iff.2 (by norm_num)

section Centre

variable (y : ℝ) (hy : |y| ≤ 10000)
include hy

/-- A valid pixel of at most 1e4 lies within 2e4 of a centre. -/
theorem dist_near (s : EReal) (h1 : thr ≤ s) (h2 : s ≤ ((10000 : ℝ) : EReal)) :
    dist s (y : EReal) ≤ reachBound := by
  rw [thr_eq] at h1
  induction s with
  | bot => exact absurd h1 (not_le.2 (EReal.bot_lt_coe _))
  | top => exact absurd h2 (not_le.2 (EReal.coe_lt_top _))
  | coe s =>
    have h1 := EReal.coe_le_coe_iff.1 h1
    have h2 := EReal.coe_le_coe_iff.1 h2
    have hs : (0 : ℝ) ≤ s := le_trans (by norm_num) h1
    obtain ⟨ha, hb⟩ := abs_le.1 hy
    unfold dist reachBound
    rw [← EReal.coe_sub, ← EReal.coe_neg]
    exact max_le (EReal.coe_le_coe_iff.2 (by linarith)) (EReal.coe_le_coe_iff.2 (by linarith))

/-- What stands in an invalid pixel's place lies further off than that. -/
theorem dist_far : reachBound ≤ dist far (y : EReal) := by
  refine le_trans ?_ (le_max_left _ _)
  obtain ⟨ha, hb⟩ := abs_le.1 hy
  rw [far_eq, ← EReal.coe_sub]
  exact EReal.coe_le_coe_iff.2 (by linarith)

/-- A centre's squared least distance, both ways. -/
theorem reach_square (t : ℕ → EReal) (p0 : ℕ) (hp0 : p0 < 50176) (h1 : thr ≤ t p0)
    (h2 : t p0 ≤ ((10000 : ℝ) : EReal)) :
    reach t (y : EReal) * reach t (y : EReal)
      = least 50176 fun p => if thr ≤ t p then square (y : EReal) (t p) else far := by
  have hn : 0 ≤ reach t (y : EReal) :=
    le_min (reachBound_nonneg.trans reachBound_le_far) (le_least fun p _ => dist_nonneg _ _)
  have hle : ∀ p < 50176, reach t (y : EReal) ≤ dist (masked (t p)) (y : EReal) := fun p hp =>
    (min_le_right _ _).trans (least_le (fun p => dist (masked (t p)) (y : EReal)) hp)
  have hd0 : dist (t p0) (y : EReal) ≤ reachBound := dist_near y hy _ h1 h2
  have hvalid : ∀ p, thr ≤ t p → masked (t p) = t p := fun p h => if_pos h
  apply le_antisymm
  · refine le_least fun p hp => ?_
    split
    · rename_i h
      rw [← dist_mul_dist]
      exact mul_self_mono hn (hvalid p h ▸ hle p hp)
    · exact (mul_self_mono hn ((hvalid p0 h1 ▸ hle p0 hp0).trans hd0)).trans reachBound_square
  · have hR : (least 50176 fun p => if thr ≤ t p then square (y : EReal) (t p) else far)
        ≤ reachBound * reachBound := by
      refine (least_le _ hp0).trans ?_
      rw [if_pos h1, ← dist_mul_dist]
      exact mul_self_mono (dist_nonneg _ _) hd0
    obtain ⟨p, hp, e⟩ := least_attained 50176 (by decide) fun p => dist (masked (t p)) (y : EReal)
    unfold reach
    rw [e]
    rcases min_choice far (dist (masked (t p)) (y : EReal)) with h | h
    · rw [h]
      exact hR.trans (mul_self_mono reachBound_nonneg reachBound_le_far)
    · rw [h]
      by_cases hv : thr ≤ t p
      · refine (least_le _ hp).trans ?_
        rw [if_pos hv, hvalid p hv, dist_mul_dist]
      · rw [masked, if_neg hv]
        exact hR.trans (mul_self_mono reachBound_nonneg (dist_far y hy))

end Centre

/-- The two chamfer distances of an image. -/
theorem chamfer_eq (cen t : ℕ → EReal) (hc : ∀ k < 128, ∃ y : ℝ, |y| ≤ 10000 ∧ cen k = (y : EReal))
    (ht : ∃ p < 50176, thr ≤ t p ∧ t p ≤ ((10000 : ℝ) : EReal)) : chamfer cen t = chamferOf cen t := by
  obtain ⟨p0, hp0, h1, h2⟩ := ht
  have e1 : (total 128 fun k => reach t (cen k) * reach t (cen k))
      = total 128 fun k => least 50176 fun p => if thr ≤ t p then square (cen k) (t p) else far :=
    total_congr fun k hk => by
      obtain ⟨y, hy, e⟩ := hc k hk
      rw [e]
      exact reach_square y hy t p0 hp0 h1 h2
  unfold chamfer chamferOf
  rw [e1]
  simp only [nearSquare_eq]

/-- A number at most 1e4 in size is a real number. -/
theorem real_of_small (x : EReal) (h : max x (-x) ≤ ((10000 : ℝ) : EReal)) :
    ∃ y : ℝ, |y| ≤ 10000 ∧ x = (y : EReal) := by
  obtain ⟨h1, h2⟩ := max_le_iff.1 h
  induction x with
  | bot => exact absurd h2 (not_le.2 (EReal.coe_lt_top _))
  | top => exact absurd h1 (not_le.2 (EReal.coe_lt_top _))
  | coe y =>
    rw [← EReal.coe_neg] at h2
    exact ⟨y, abs_le.2 ⟨by linarith [EReal.coe_le_coe_iff.1 h2], EReal.coe_le_coe_iff.1 h1⟩, rfl⟩

/-- Between two such edges lies such a centre. -/
theorem small_centre (a b : EReal) (ha : ∃ y : ℝ, |y| ≤ 10000 ∧ a = (y : EReal))
    (hb : ∃ y : ℝ, |y| ≤ 10000 ∧ b = (y : EReal)) :
    ∃ y : ℝ, |y| ≤ 10000 ∧ half * (a + b) = (y : EReal) := by
  obtain ⟨u, hu, rfl⟩ := ha
  obtain ⟨v, hv, rfl⟩ := hb
  obtain ⟨h1, h2⟩ := abs_le.1 hu
  obtain ⟨h3, h4⟩ := abs_le.1 hv
  refine ⟨1 / 2 * (u + v), abs_le.2 ⟨by linarith, by linarith⟩, ?_⟩
  rw [half_eq, ← EReal.coe_add, ← EReal.coe_mul]

end Cert.Loss

end
-- ==== Proof.Within.lean ====
/-
  What the precondition says at the real numbers.
-/
module

public import proofs.«01_k».proof.Proof.Chamfer
public import proofs.«01_k».proof.Pre_within_reach

@[expose] public section

noncomputable section

namespace Cert.Loss

open Idealize.ShloMosaic

/-- The shape relations of the precondition's operations. -/
theorem withinFacts : Cert.Pre_within_reach.Facts where
  shapeCasts_S4x1x224x224_S4x50176 := by decide
  bcast_S_S4x50176 := by decide
  reducesTo_S4x50176_S4_d1 := by decide
  h_S_ := by decide
  bcast_S_S4x129 := by decide
  bcast_S_S4 := by decide
  bcast_S4_S4x1_0 := by decide
  bcast_S4x1_S4x129_0_1 := by decide

section

open Cert.Pre_within_reach Cert.Pre_within_reach.Facts

variable [Cert.Pre_within_reach.Facts]

/-- The pixels of each image in one row, with infinity for a pixel that is not valid. -/
def validOnly (tg : FVec Ideal S4x1x224x224 .f32) : FVec Ideal S4x50176 .f32 :=
  select (cmpf .oge (shapeCast S4x50176 tg shapeCasts_S4x1x224x224_S4x50176 : FVec Ideal S4x50176 .f32)
      (broadcastInDim S4x50176 ![] bcast_S_S4x50176 (constant S_ .f32 0x3A83126F#32)))
    (shapeCast S4x50176 tg shapeCasts_S4x1x224x224_S4x50176)
    (broadcastInDim S4x50176 ![] bcast_S_S4x50176 (constant S_ .f32 0x7F800000#32))

/-- The least valid pixel of each image. -/
def leastValid (tg : FVec Ideal S4x1x224x224 .f32) : FVec Ideal S4 .f32 :=
  Host.reduce FloatOps.minimumf (validOnly tg) (constant S_ .f32 0x7F800000#32)
    reducesTo_S4x50176_S4_d1 h_S_

theorem validOnly_read (tg : FVec Ideal S4x1x224x224 .f32) (n : Fin 4) (p : Fin 50176) :
    validOnly tg (ix2 n p) = if thr ≤ pixel tg n.val p.val then pixel tg n.val p.val else ⊤ := by
  have h : p.val / 224 % 224 = p.val / 224 := Nat.mod_eq_of_lt (by omega)
  unfold pixel
  simp only [h, Nat.mod_eq_of_lt n.isLt]
  unfold validOnly thr
  pointwise [ofBits_inf]

theorem leastValid_read (tg : FVec Ideal S4x1x224x224 .f32) (n : Fin 4) :
    leastValid tg (ix1 n)
      = least 50176 fun p => if thr ≤ pixel tg n.val p then pixel tg n.val p else ⊤ := by
  have h : leastValid tg (ix1 n) = Finset.fold min (Ideal.ofBits .f32 0x7F800000#32)
      (fun p : Fin 50176 => validOnly tg (ix2 n p)) Finset.univ := by
    unfold leastValid
    pointwise
  rw [h, ofBits_inf]
  exact fold_least 50176 _ _ fun p => validOnly_read tg n p

/-- Two bits of which the conjunction is one are both one. -/
theorem both_bits : ∀ a b : Bool,
    IntOp.andi (BitVec.ofBool a) (BitVec.ofBool b) = 1#1 → a = true ∧ b = true := by decide

variable (e : FVec Ideal S4x129 .f32) (pr tg : FVec Ideal S4x1x224x224 .f32)
  (h : Cert.Pre_within_reach.fn (F := Ideal) e pr tg = fun _ => 1#1)

include h

theorem within_read (n : Fin 4) (k : Fin 129) :
    max (e (ix2 n k)) (-(e (ix2 n k))) ≤ Ideal.ofBits .f32 0x461C4000#32
      ∧ leastValid tg (ix1 n) ≤ Ideal.ofBits .f32 0x461C4000#32 := by
  have hk := congrFun h (ix2 n k)
  unfold fn fn_where at hk
  change andi (cmpf .ole (Host.absf e) _) (broadcastInDim S4x129 ![0, 1] bcast_S4x1_S4x129_0_1
    (broadcastInDim S4x1 ![0] bcast_S4_S4x1_0 (cmpf .ole (leastValid tg)
      (broadcastInDim S4 ![] bcast_S_S4 (constant S_ .f32 0x461C4000#32))))) (ix2 n k) = 1#1 at hk
  pointwise at hk
  obtain ⟨h1, h2⟩ := both_bits _ _ hk
  exact ⟨of_decide_eq_true h1, of_decide_eq_true h2⟩

/-- Every edge is a real number of at most 1e4 in size. -/
theorem edge_small (n k : ℕ) : ∃ y : ℝ, |y| ≤ 10000 ∧ edge e n k = (y : EReal) :=
  real_of_small _ (ofBits_1e4 ▸ (within_read e pr tg h _ _).1)

/-- Every centre too. -/
theorem centre_small (n k : ℕ) : ∃ y : ℝ, |y| ≤ 10000 ∧ centre e n k = (y : EReal) :=
  small_centre _ _ (edge_small e pr tg h n k) (edge_small e pr tg h n (k + 1))

/-- Every image has a valid pixel of at most 1e4. -/
theorem pixel_near (n : Fin 4) :
    ∃ p < 50176, thr ≤ pixel tg n.val p ∧ pixel tg n.val p ≤ ((10000 : ℝ) : EReal) := by
  have hl := (within_read e pr tg h n 0).2
  rw [leastValid_read, ofBits_1e4] at hl
  obtain ⟨p, hp, hq⟩ := least_attained 50176 (by decide) fun p =>
    if thr ≤ pixel tg n.val p then pixel tg n.val p else ⊤
  rw [hq] at hl
  by_cases hv : thr ≤ pixel tg n.val p
  · rw [if_pos hv] at hl
    exact ⟨p, hp, hv, hl⟩
  · rw [if_neg hv] at hl
    exact absurd hl (not_le.2 (EReal.coe_lt_top _))

/-- So the two chamfer distances of every image agree. -/
theorem chamfer_sum_eq :
    (total 4 fun n => chamfer (centre e n) (pixel tg n))
      = total 4 fun n => Reference.chamferOf (centre e n) (pixel tg n) :=
  total_congr fun n hn => chamfer_eq _ _ (fun k _ => centre_small e pr tg h n k)
    (pixel_near e pr tg h ⟨n, hn⟩)

end

/-- The two programs' results agree on arguments of which the precondition holds. -/
theorem results_agree [Cert.Pre_within_reach.Facts]
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD)
    (h : Cert.Pre_within_reach.fn (F := Ideal) (edgesArg m c) (predArg m c) (targetArg m c)
      = fun _ => 1#1)
    (he : m' ((c.tc : Thread ReferenceIdeal.nD ReferenceIdeal.τ).loc ReferenceIdeal.main_arg0)
      = edgesArg m c)
    (hp : m' ((c.tc : Thread ReferenceIdeal.nD ReferenceIdeal.τ).loc ReferenceIdeal.main_arg1)
      = predArg m c)
    (ht : m' ((c.tc : Thread ReferenceIdeal.nD ReferenceIdeal.τ).loc ReferenceIdeal.main_arg2)
      = targetArg m c) :
    (ReferenceIdeal.Value.res_main_v47 m' c : FVec Ideal KernelIdeal.S1x1 .f32)
      = KernelIdeal.Value.G4 m c := by
  have hk := kernel_value m c
  rw [chamfer_sum_eq _ _ _ h] at hk
  have hr := Reference.reference_value _ _ _ m' c he.symm hp.symm ht.symm
  funext j
  have hj : j = ix2 0 0 := by
    rw [← ix2_eta j]
    exact congrArg₂ ix2 (Subsingleton.elim (α := Fin 1) _ _) (Subsingleton.elim (α := Fin 1) _ _)
  rw [hj]
  exact hr.trans hk.symm

end Cert.Loss

end
-- ==== Proof.lean ====
/-
  The proof of the certificate's claims.

  The frames of the two kernel programs are the generated ones; the reference's is its generated run, and
  it uses no semaphore. That the two results agree is Proof/Within.lean's `results_agree`.
-/
module

public import proofs.«01_k».proof.Defs
public import proofs.«01_k».proof.Proof.Within
public import proofs.«01_k».proof.Proof.Gen.Kernel.Frame
public import Idealize.ShloMosaic.Adequacy
public import Idealize.ShloMosaic.Init

@[expose] public section

noncomputable section

namespace Cert.Proof

open Idealize.ShloMosaic Idealize.SL.Sem

/-- The kernel and the reference give the same results. -/
theorem algebraic :
    Cert.algebraic_KernelIdeal_ReferenceIdeal_pre_within_reach
      (hPre_within_reach := Cert.Loss.withinFacts) := by
  intro m g m' g' hpre hargs
  refine ⟨fun c => Cert.KernelIdeal.Value.G4 m c, Cert.KernelIdeal.Value.run (F := Ideal) m g, ?_⟩
  refine (θ_run Cert.ReferenceIdeal.defs _ _).mono (fun r h c => ⟨(h c).1.trans ?_, (h c).2⟩)
    (Cert.ReferenceIdeal.Value.run (F := Ideal) m' g')
  exact @Cert.Loss.results_agree Cert.Loss.withinFacts m m' c (hpre c) (hargs c).1 (hargs c).2.1
    (hargs c).2.2

theorem claim : Cert.Claim :=
  ⟨Cert.Kernel.Gen.facts, Cert.KernelIdeal.Gen.facts, Cert.ReferenceIdeal.Gen.facts,
    Cert.Loss.withinFacts,
    fun m g _ => Cert.Kernel.Gen.frame m g,
    fun m g _ => Cert.KernelIdeal.Gen.frame m g,
    fun m g _ => Cert.KernelIdeal.Gen.frame m g,
    fun m g _ => (θ_run Cert.ReferenceIdeal.defs _ _).mono
      (fun r h => ⟨fun c => (h c).2, sem_eq_zero_of_no_sems (by decide) r.2⟩)
      (Cert.ReferenceIdeal.Value.run (F := Ideal) m g),
    fun m g _ => (θ_run Cert.ReferenceIdeal.defs _ _).mono
      (fun r h => ⟨fun c => (h c).2, sem_eq_zero_of_no_sems (by decide) r.2⟩)
      (Cert.ReferenceIdeal.Value.run (F := Ideal) m g),
    trivial,
    algebraic⟩

end Cert.Proof

end
